-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_normed [hPre_finite_and_normed : Cert.Pre_finite_and_normed.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_normed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_and_normed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_and_normed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_and_normed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_and_normed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_and_normed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_and_normed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite_and_normed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.1 = (fun _ => 1#1)
    ∧ (Cert.Pre_finite_and_normed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_normed [hPre_finite_and_normed : Cert.Pre_finite_and_normed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_normed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_and_normed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_and_normed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_and_normed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_and_normed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_and_normed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_and_normed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite_and_normed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.1 = (fun _ => 1#1)
    ∧ (Cert.Pre_finite_and_normed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_and_normed [hKernelIdeal : Cert.KernelIdeal.Facts] [hPre_finite_and_normed : Cert.Pre_finite_and_normed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_normed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_and_normed [hReferenceIdeal : Cert.ReferenceIdeal.Facts] [hPre_finite_and_normed : Cert.Pre_finite_and_normed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_normed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_and_normed [hKernelIdeal : Cert.KernelIdeal.Facts] [hReferenceIdeal : Cert.ReferenceIdeal.Facts] [hPre_finite_and_normed : Cert.Pre_finite_and_normed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_normed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_9) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v3_10) = v3 c
          ∧ r.2.mem ((c.tc : Thread Cert.ReferenceIdeal.nD Cert.ReferenceIdeal.τ).loc Cert.ReferenceIdeal.main_v3_11) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_and_normed : Cert.Pre_finite_and_normed.Facts),
    quiescent_Kernel (hKernel := hKernel)
    ∧ quiescent_KernelIdeal (hKernelIdeal := hKernelIdeal)
    ∧ quiescent_KernelIdeal_pre_finite_and_normed (hKernelIdeal := hKernelIdeal) (hPre_finite_and_normed := hPre_finite_and_normed)
    ∧ quiescent_ReferenceIdeal (hReferenceIdeal := hReferenceIdeal)
    ∧ quiescent_ReferenceIdeal_pre_finite_and_normed (hReferenceIdeal := hReferenceIdeal) (hPre_finite_and_normed := hPre_finite_and_normed)
    ∧ preserves_Kernel_KernelIdeal
    ∧ algebraic_KernelIdeal_ReferenceIdeal_pre_finite_and_normed (hKernelIdeal := hKernelIdeal) (hReferenceIdeal := hReferenceIdeal) (hPre_finite_and_normed := hPre_finite_and_normed)
-- ==== Pre_finite_and_normed.lean ====
abbrev S8x512x1024 : Shape := ⟨3, ![8, 512, 1024]⟩
abbrev S8x256x512 : Shape := ⟨3, ![8, 256, 512]⟩
abbrev S8x256 : Shape := ⟨2, ![8, 256]⟩
abbrev S8x512x256 : Shape := ⟨3, ![8, 512, 256]⟩
abbrev S8x512 : Shape := ⟨2, ![8, 512]⟩
abbrev S8x1024x256 : Shape := ⟨3, ![8, 1024, 256]⟩
abbrev S_ : Shape := ⟨0, ![]⟩
abbrev S8x1024 : Shape := ⟨2, ![8, 1024]⟩

class Facts : Prop where
  bcast_S_S8x512x1024 : S_.BroadcastsInDim S8x512x1024 (![] : Fin 0 → Fin S8x512x1024.rank)
  bcast_S_S8x256x512 : S_.BroadcastsInDim S8x256x512 (![] : Fin 0 → Fin S8x256x512.rank)
  bcast_S_S8x256 : S_.BroadcastsInDim S8x256 (![] : Fin 0 → Fin S8x256.rank)
  bcast_S_S8x512x256 : S_.BroadcastsInDim S8x512x256 (![] : Fin 0 → Fin S8x512x256.rank)
  bcast_S_S8x512 : S_.BroadcastsInDim S8x512 (![] : Fin 0 → Fin S8x512.rank)
  bcast_S_S8x1024x256 : S_.BroadcastsInDim S8x1024x256 (![] : Fin 0 → Fin S8x1024x256.rank)
  reducesTo_S8x1024x256_S8x1024_d2 : S8x1024x256.ReducesTo [2] S8x1024
  h_S_ : 0 < S_.numel
  bcast_S_S8x1024 : S_.BroadcastsInDim S8x1024 (![] : Fin 0 → Fin S8x1024.rank)

variable [Facts]

def fn_part1 {F : FTy → Type} [FloatOps F] (main_arg6 : FVec F S8x512 .f32) (main_arg7 : FVec F S8x1024x256 .f32) (main_v2 : IVec S8x512x1024 1) (main_v5 : IVec S8x256x512 1) (main_v8 : IVec S8x256 1) (main_v11 : IVec S8x256 1) (main_v14 : IVec S8x512x256 1) (main_v17 : IVec S8x512 1) : IVec S8x512x1024 1 × IVec S8x256x512 1 × IVec S8x256 1 × IVec S8x256 1 × IVec S8x512x256 1 × IVec S8x512 1 × IVec S8x512 1 × IVec S8x1024x256 1 × IVec S8x1024 1 :=
  let main_v18 : FVec F S8x512 .f32 := Host.absf main_arg6
  let main_cst_5 : FVec F S_ .f32 := constant S_ .f32 0x7F800000#32
  let main_v19 : FVec F S8x512 .f32 := broadcastInDim S8x512 ![] bcast_S_S8x512 main_cst_5
  let main_v20 : IVec S8x512 1 := cmpf .olt main_v18 main_v19
  let main_v21 : FVec F S8x1024x256 .f32 := Host.absf main_arg7
  let main_cst_6 : FVec F S_ .f32 := constant S_ .f32 0x7F800000#32
  let main_v22 : FVec F S8x1024x256 .f32 := broadcastInDim S8x1024x256 ![] bcast_S_S8x1024x256 main_cst_6
  let main_v23 : IVec S8x1024x256 1 := cmpf .olt main_v21 main_v22
  let main_v24 : FVec F S8x1024x256 .f32 := mulf main_arg7 main_arg7
  let main_cst_7 : FVec F S_ .f32 := constant S_ .f32 0x00000000#32
  let main_v25 : FVec F S8x1024 .f32 := (fun x v => Host.reduceAdd x v reducesTo_S8x1024x256_S8x1024_d2 h_S_) main_v24 main_cst_7
  let main_v26 : FVec F S8x1024 .f32 := Host.sqrt main_v25
  let main_cst_8 : FVec F S_ .f32 := constant S_ .f32 0x2B8CBCCC#32
  let main_v27 : FVec F S8x1024 .f32 := broadcastInDim S8x1024 ![] bcast_S_S8x1024 main_cst_8
  let main_v28 : IVec S8x1024 1 := cmpf .oge main_v26 main_v27
  (main_v2, main_v5, main_v8, main_v11, main_v14, main_v17, main_v20, main_v23, main_v28)

def fn {F : FTy → Type} [FloatOps F] (main_arg0 : FVec F S8x512x1024 .f32) (main_arg1 : FVec F S8x256x512 .f32) (main_arg2 : FVec F S8x256 .f32) (main_arg3 : FVec F S8x256 .f32) (main_arg4 : FVec F S8x512x256 .f32) (main_arg5 : FVec F S8x512 .f32) (main_arg6 : FVec F S8x512 .f32) (main_arg7 : FVec F S8x1024x256 .f32) : IVec S8x512x1024 1 × IVec S8x256x512 1 × IVec S8x256 1 × IVec S8x256 1 × IVec S8x512x256 1 × IVec S8x512 1 × IVec S8x512 1 × IVec S8x1024x256 1 × IVec S8x1024 1 :=
  let main_v0 : FVec F S8x512x1024 .f32 := Host.absf main_arg0
  let main_cst : FVec F S_ .f32 := constant S_ .f32 0x7F800000#32
  let main_v1 : FVec F S8x512x1024 .f32 := broadcastInDim S8x512x1024 ![] bcast_S_S8x512x1024 main_cst
  let main_v2 : IVec S8x512x1024 1 := cmpf .olt main_v0 main_v1
  let main_v3 : FVec F S8x256x512 .f32 := Host.absf main_arg1
  let main_cst_0 : FVec F S_ .f32 := constant S_ .f32 0x7F800000#32
  let main_v4 : FVec F S8x256x512 .f32 := broadcastInDim S8x256x512 ![] bcast_S_S8x256x512 main_cst_0
  let main_v5 : IVec S8x256x512 1 := cmpf .olt main_v3 main_v4
  let main_v6 : FVec F S8x256 .f32 := Host.absf main_arg2
  let main_cst_1 : FVec F S_ .f32 := constant S_ .f32 0x7F800000#32
  let main_v7 : FVec F S8x256 .f32 := broadcastInDim S8x256 ![] bcast_S_S8x256 main_cst_1
  let main_v8 : IVec S8x256 1 := cmpf .olt main_v6 main_v7
  let main_v9 : FVec F S8x256 .f32 := Host.absf main_arg3
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_v12 : FVec F S8x512x256 .f32 := Host.absf main_arg4
  let main_cst_3 : FVec F S_ .f32 := constant S_ .f32 0x7F800000#32
  let main_v13 : FVec F S8x512x256 .f32 := broadcastInDim S8x512x256 ![] bcast_S_S8x512x256 main_cst_3
  let main_v14 : IVec S8x512x256 1 := cmpf .olt main_v12 main_v13
  let main_v15 : FVec F S8x512 .f32 := Host.absf main_arg5
  let main_cst_4 : FVec F S_ .f32 := constant S_ .f32 0x7F800000#32
  let main_v16 : FVec F S8x512 .f32 := broadcastInDim S8x512 ![] bcast_S_S8x512 main_cst_4
  let main_v17 : IVec S8x512 1 := cmpf .olt main_v15 main_v16
  fn_part1 (F := F) main_arg6 main_arg7 main_v2 main_v5 main_v8 main_v11 main_v14 main_v17
-- ==== Kernel.lean ====
abbrev S8x512x1024 : Shape := ⟨3, ![8, 512, 1024]⟩
abbrev S8x256x512 : Shape := ⟨3, ![8, 256, 512]⟩
abbrev S8x256 : Shape := ⟨2, ![8, 256]⟩
abbrev S8x512x256 : Shape := ⟨3, ![8, 512, 256]⟩
abbrev S8x512 : Shape := ⟨2, ![8, 512]⟩
abbrev S8x1024x256 : Shape := ⟨3, ![8, 1024, 256]⟩
abbrev S8x256x1024 : Shape := ⟨3, ![8, 256, 1024]⟩
abbrev S8x256x1 : Shape := ⟨3, ![8, 256, 1]⟩
abbrev S8x512x1 : Shape := ⟨3, ![8, 512, 1]⟩
abbrev S256x8 : Shape := ⟨2, ![256, 8]⟩
abbrev S512x8 : Shape := ⟨2, ![512, 8]⟩
abbrev S_ : Shape := ⟨0, ![]⟩
abbrev S8x1024 : Shape := ⟨2, ![8, 1024]⟩
abbrev S8x1024x1 : Shape := ⟨3, ![8, 1024, 1]⟩
abbrev S8x8x1024 : Shape := ⟨3, ![8, 8, 1024]⟩
abbrev S8x2048x1024 : Shape := ⟨3, ![8, 2048, 1024]⟩
abbrev S8x1x1 : Shape := ⟨3, ![8, 1, 1]⟩
abbrev S1x512x1024 : Shape := ⟨3, ![1, 512, 1024]⟩
abbrev S1x8x1024 : Shape := ⟨3, ![1, 8, 1024]⟩
abbrev S1x2048x1024 : Shape := ⟨3, ![1, 2048, 1024]⟩
abbrev S1x1x1 : Shape := ⟨3, ![1, 1, 1]⟩
abbrev S512x1024 : Shape := ⟨2, ![512, 1024]⟩
abbrev S1024x1024 : Shape := ⟨2, ![1024, 1024]⟩
abbrev S1x256x512 : Shape := ⟨3, ![1, 256, 512]⟩
abbrev S256x512 : Shape := ⟨2, ![256, 512]⟩
abbrev S256x1024 : Shape := ⟨2, ![256, 1024]⟩
abbrev S256x1 : Shape := ⟨2, ![256, 1]⟩
abbrev S1x256x1024 : Shape := ⟨3, ![1, 256, 1024]⟩
abbrev S1024 : Shape := ⟨1, ![1024]⟩
abbrev S1x1024 : Shape := ⟨2, ![1, 1024]⟩
abbrev S1x1024x256 : Shape := ⟨3, ![1, 1024, 256]⟩
abbrev S1024x256 : Shape := ⟨2, ![1024, 256]⟩
abbrev S1x1x1024 : Shape := ⟨3, ![1, 1, 1024]⟩
abbrev S1 : Shape := ⟨1, ![1]⟩
abbrev S1x512x256 : Shape := ⟨3, ![1, 512, 256]⟩
abbrev S512x256 : Shape := ⟨2, ![512, 256]⟩
abbrev S512x1 : Shape := ⟨2, ![512, 1]⟩
abbrev S8 : Shape := ⟨1, ![8]⟩

abbrev nBuf : Space → Nat
  | .hbm => 64
  | .vmem => 18
  | .smem => 0
  | _ => 0

abbrev bufTy : (tb : Table) → Fin (tcTables nBuf tb) → BufTy
  | .hbm, ⟨0, _⟩ => ⟨S8x512x1024, .f32⟩
  | .hbm, ⟨1, _⟩ => ⟨S8x256x512, .f32⟩
  | .hbm, ⟨2, _⟩ => ⟨S8x256, .f32⟩
  | .hbm, ⟨3, _⟩ => ⟨S8x256, .f32⟩
  | .hbm, ⟨4, _⟩ => ⟨S8x512x256, .f32⟩
  | .hbm, ⟨5, _⟩ => ⟨S8x512, .f32⟩
  | .hbm, ⟨6, _⟩ => ⟨S8x512, .f32⟩
  | .hbm, ⟨7, _⟩ => ⟨S8x1024x256, .f32⟩
  | .hbm, ⟨8, _⟩ => ⟨S8x256x1024, .f32⟩
  | .hbm, ⟨9, _⟩ => ⟨S8x256x1, .f32⟩
  | .hbm, ⟨10, _⟩ => ⟨S8x512x1, .f32⟩
  | .hbm, ⟨11, _⟩ => ⟨S256x8, .f32⟩
  | .hbm, ⟨12, _⟩ => ⟨S512x8, .f32⟩
  | .hbm, ⟨13, _⟩ => ⟨S8x256x512, .f32⟩
  | .hbm, ⟨14, _⟩ => ⟨S_, .f32⟩
  | .hbm, ⟨15, _⟩ => ⟨S8x256, .f32⟩
  | .hbm, ⟨16, _⟩ => ⟨S8x256x1, .f32⟩
  | .hbm, ⟨17, _⟩ => ⟨S8x256x1, .f32⟩
  | .hbm, ⟨18, _⟩ => ⟨S8x256x512, .f32⟩
  | .hbm, ⟨19, _⟩ => ⟨S8x256x512, .f32⟩
  | .hbm, ⟨20, _⟩ => ⟨S_, .f32⟩
  | .hbm, ⟨21, _⟩ => ⟨S8x256x1, .f32⟩
  | .hbm, ⟨22, _⟩ => ⟨S8x256x1, .f32⟩
  | .hbm, ⟨23, _⟩ => ⟨S8x256x512, .f32⟩
  | .hbm, ⟨24, _⟩ => ⟨S8x256x512, .f32⟩
  | .hbm, ⟨25, _⟩ => ⟨S8x256x512, .bf16⟩
  | .hbm, ⟨26, _⟩ => ⟨S8x512x256, .f32⟩
  | .hbm, ⟨27, _⟩ => ⟨S_, .f32⟩
  | .hbm, ⟨28, _⟩ => ⟨S8x512, .f32⟩
  | .hbm, ⟨29, _⟩ => ⟨S8x512x1, .f32⟩
  | .hbm, ⟨30, _⟩ => ⟨S8x512x1, .f32⟩
  | .hbm, ⟨31, _⟩ => ⟨S8x512x256, .f32⟩
  | .hbm, ⟨32, _⟩ => ⟨S8x512x256, .f32⟩
  | .hbm, ⟨33, _⟩ => ⟨S_, .f32⟩
  | .hbm, ⟨34, _⟩ => ⟨S8x512x1, .f32⟩
  | .hbm, ⟨35, _⟩ => ⟨S8x512x1, .f32⟩
  | .hbm, ⟨36, _⟩ => ⟨S8x512x256, .f32⟩
  | .hbm, ⟨37, _⟩ => ⟨S8x512x256, .f32⟩
  | .hbm, ⟨38, _⟩ => ⟨S8x512x256, .bf16⟩
  | .hbm, ⟨39, _⟩ => ⟨S8x1024x256, .f32⟩
  | .hbm, ⟨40, _⟩ => ⟨S_, .f32⟩
  | .hbm, ⟨41, _⟩ => ⟨S8x1024, .f32⟩
  | .hbm, ⟨42, _⟩ => ⟨S8x1024x1, .f32⟩
  | .hbm, ⟨43, _⟩ => ⟨S8x1024x1, .f32⟩
  | .hbm, ⟨44, _⟩ => ⟨S_, .f32⟩
  | .hbm, ⟨45, _⟩ => ⟨S8x1024x1, .f32⟩
  | .hbm, ⟨46, _⟩ => ⟨S8x1024x1, .f32⟩
  | .hbm, ⟨47, _⟩ => ⟨S8x1024x256, .f32⟩
  | .hbm, ⟨48, _⟩ => ⟨S8x1024x256, .f32⟩
  | .hbm, ⟨49, _⟩ => ⟨S8x1024x256, .bf16⟩
  | .hbm, ⟨50, _⟩ => ⟨S8x256x1024, .bf16⟩
  | .hbm, ⟨51, _⟩ => ⟨S8x256x1024, .f32⟩
  | .hbm, ⟨52, _⟩ => ⟨S8x256x1024, .f32⟩
  | .hbm, ⟨53, _⟩ => ⟨S8x256x1024, .bf16⟩
  | .hbm, ⟨54, _⟩ => ⟨S8x256x1024, .f32⟩
  | .hbm, ⟨55, _⟩ => ⟨S8x256x1024, .f32⟩
  | .hbm, ⟨56, _⟩ => ⟨S8x256x1024, .bf16⟩
  | .hbm, ⟨57, _⟩ => ⟨S8x512x1024, .f32⟩
  | .hbm, ⟨58, _⟩ => ⟨S8x8x1024, .i32⟩
  | .hbm, ⟨59, _⟩ => ⟨S8x2048x1024, .f32⟩
  | .hbm, ⟨60, _⟩ => ⟨S8x1x1, .f32⟩
  | .hbm, ⟨61, _⟩ => ⟨S8, .f32⟩
  | .hbm, ⟨62, _⟩ => ⟨S_, .f32⟩
  | .hbm, ⟨63, _⟩ => ⟨S_, .f32⟩
  | .local _ .vmem, ⟨0, _⟩ => ⟨S8x256x512, .bf16⟩
  | .local _ .vmem, ⟨1, _⟩ => ⟨S256x8, .f32⟩
  | .local _ .vmem, ⟨2, _⟩ => ⟨S8x512x256, .bf16⟩
  | .local _ .vmem, ⟨3, _⟩ => ⟨S512x8, .f32⟩
  | .local _ .vmem, ⟨4, _⟩ => ⟨S8x1024x256, .bf16⟩
  | .local _ .vmem, ⟨5, _⟩ => ⟨S8x256x1024, .bf16⟩
  | .local _ .vmem, ⟨6, _⟩ => ⟨S8x256x1024, .bf16⟩
  | .local _ .vmem, ⟨7, _⟩ => ⟨S8x256x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x8x1024, .i32⟩
  | .local _ .vmem, ⟨13, _⟩ => ⟨S1x8x1024, .i32⟩
  | .local _ .vmem, ⟨14, _⟩ => ⟨S1x2048x1024, .f32⟩
  | .local _ .vmem, ⟨15, _⟩ => ⟨S1x2048x1024, .f32⟩
  | .local _ .vmem, ⟨16, _⟩ => ⟨S1x1x1, .f32⟩
  | .local _ .vmem, ⟨17, _⟩ => ⟨S1x1x1, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_cst_0 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_cst_1 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_cst_2 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_cst_3 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_cst_4 : Ref sig .tc := ⟨.hbm, 44, rfl⟩
abbrev main_call0_v26 : Ref sig .tc := ⟨.hbm, 45, rfl⟩
abbrev main_call0_v27 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_v32 : Ref sig .tc := ⟨.hbm, 51, rfl⟩
abbrev main_call0_v33 : Ref sig .tc := ⟨.hbm, 52, rfl⟩
abbrev main_call0_v34 : Ref sig .tc := ⟨.hbm, 53, rfl⟩
abbrev main_call0_v35 : Ref sig .tc := ⟨.hbm, 54, rfl⟩
abbrev main_call0_v36 : Ref sig .tc := ⟨.hbm, 55, rfl⟩
abbrev main_call0_v37 : Ref sig .tc := ⟨.hbm, 56, rfl⟩
abbrev main_v5_0 : Ref sig .tc := ⟨.hbm, 57, rfl⟩
abbrev main_v5_1 : Ref sig .tc := ⟨.hbm, 58, rfl⟩
abbrev main_v5_2 : Ref sig .tc := ⟨.hbm, 59, rfl⟩
abbrev main_v5_3 : Ref sig .tc := ⟨.hbm, 60, rfl⟩
abbrev main_v6 : Ref sig .tc := ⟨.hbm, 61, rfl⟩
abbrev main_cst : Ref sig .tc := ⟨.hbm, 62, rfl⟩
abbrev main_v7 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v553 : BitVec 1 := Scalar.cmpi .eq arg1 c0_i32
  let v556 : BitVec 32 := Scalar.extui v553
  let c0_i32_314 : BitVec 32 := 0#32
  let v557 : BitVec 1 := Scalar.cmpi .ne v556 c0_i32_314
  v557

def k0_cond2 (i : grid0.Coords) : BitVec 1 :=
  let arg1 : BitVec 32 := BitVec.ofNat 32 (i 1).val
  let c0_i32 : BitVec 32 := 0#32
  let v553 : BitVec 1 := Scalar.cmpi .eq arg1 c0_i32
  let v_true : BitVec 1 := 1#1
  let v558 : BitVec 1 := Scalar.xori v553 v_true
  let v559 : BitVec 32 := Scalar.extui v558
  let c0_i32_315 : BitVec 32 := 0#32
  let v560 : BitVec 1 := Scalar.cmpi .ne v559 c0_i32_315
  v560

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1024 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8x512x1024 : Shape := ⟨3, ![8, 512, 1024]⟩
abbrev S8x256x512 : Shape := ⟨3, ![8, 256, 512]⟩
abbrev S8x256 : Shape := ⟨2, ![8, 256]⟩
abbrev S8x512x256 : Shape := ⟨3, ![8, 512, 256]⟩
abbrev S8x512 : Shape := ⟨2, ![8, 512]⟩
abbrev S8x1024x256 : Shape := ⟨3, ![8, 1024, 256]⟩
abbrev S_ : Shape := ⟨0, ![]⟩
abbrev S8x8x1024 : Shape := ⟨3, ![8, 8, 1024]⟩
abbrev S8x8x256x1024 : Shape := ⟨4, ![8, 8, 256, 1024]⟩
abbrev S1x256x512 : Shape := ⟨3, ![1, 256, 512]⟩
abbrev S256x512 : Shape := ⟨2, ![256, 512]⟩
abbrev S1x256 : Shape := ⟨2, ![1, 256]⟩
abbrev S256 : Shape := ⟨1, ![256]⟩
abbrev S1x512x256 : Shape := ⟨3, ![1, 512, 256]⟩
abbrev S512x256 : Shape := ⟨2, ![512, 256]⟩
abbrev S1x512 : Shape := ⟨2, ![1, 512]⟩
abbrev S512 : Shape := ⟨1, ![512]⟩
abbrev S1x1024x256 : Shape := ⟨3, ![1, 1024, 256]⟩
abbrev S1024x256 : Shape := ⟨2, ![1024, 256]⟩
abbrev S256x1 : Shape := ⟨2, ![256, 1]⟩
abbrev S512x1 : Shape := ⟨2, ![512, 1]⟩
abbrev S8x256x1024 : Shape := ⟨3, ![8, 256, 1024]⟩
abbrev S1x256x1 : Shape := ⟨3, ![1, 256, 1]⟩
abbrev S8192x256 : Shape := ⟨2, ![8192, 256]⟩
abbrev S8192 : Shape := ⟨1, ![8192]⟩
abbrev S8192x1 : Shape := ⟨2, ![8192, 1]⟩
abbrev S1024 : Shape := ⟨1, ![1024]⟩
abbrev S1024x1 : Shape := ⟨2, ![1024, 1]⟩
abbrev S256x1024 : Shape := ⟨2, ![256, 1024]⟩
abbrev S8192x1024 : Shape := ⟨2, ![8192, 1024]⟩
abbrev S1x1024 : Shape := ⟨2, ![1, 1024]⟩
abbrev S8x1024 : Shape := ⟨2, ![8, 1024]⟩
abbrev S8x1024x1 : Shape := ⟨3, ![8, 1024, 1]⟩
abbrev S1 : Shape := ⟨1, ![1]⟩
abbrev S1x1x1 : Shape := ⟨3, ![1, 1, 1]⟩
abbrev S8 : Shape := ⟨1, ![8]⟩
abbrev S8x1024x512 : Shape := ⟨3, ![8, 1024, 512]⟩
abbrev S1x512x1 : Shape := ⟨3, ![1, 512, 1]⟩
abbrev S1x8x1024 : Shape := ⟨3, ![1, 8, 1024]⟩
abbrev S1x8x256x1024 : Shape := ⟨4, ![1, 8, 256, 1024]⟩
abbrev S8x2048x1024 : Shape := ⟨3, ![8, 2048, 1024]⟩

abbrev nBuf : Space → Nat
  | .hbm => 205
  | .vmem => 0
  | .smem => 0
  | _ => 0

abbrev hbmTy0_0 (i : Nat) : BufTy := match i % 128 with
  | 0 => ⟨S8x512x1024, .f32⟩
  | 1 => ⟨S8x256x512, .f32⟩
  | 2 => ⟨S8x256, .f32⟩
  | 3 => ⟨S8x256, .f32⟩
  | 4 => ⟨S8x512x256, .f32⟩
  | 5 => ⟨S8x512, .f32⟩
  | 6 => ⟨S8x512, .f32⟩
  | 7 => ⟨S8x1024x256, .f32⟩
  | 8 => ⟨S_, .f32⟩
  | 9 => ⟨S8x512x1024, .f32⟩
  | 10 => ⟨S_, .f32⟩
  | 11 => ⟨S_, .f32⟩
  | 12 => ⟨S_, .i32⟩
  | 13 => ⟨S8x8x1024, .i32⟩
  | 14 => ⟨S_, .f32⟩
  | 15 => ⟨S8x8x256x1024, .f32⟩
  | 16 => ⟨S_, .i32⟩
  | 17 => ⟨S8x256x512, .f32⟩
  | 18 => ⟨S8x256, .f32⟩
  | 19 => ⟨S8x256, .f32⟩
  | 20 => ⟨S8x512x256, .f32⟩
  | 21 => ⟨S8x512, .f32⟩
  | 22 => ⟨S8x512, .f32⟩
  | 23 => ⟨S8x1024x256, .f32⟩
  | 24 => ⟨S_, .i32⟩
  | 25 => ⟨S8x512x1024, .f32⟩
  | 26 => ⟨S8x512x1024, .f32⟩
  | 27 => ⟨S_, .f32⟩
  | 28 => ⟨S_, .f32⟩
  | 29 => ⟨S8x8x1024, .i32⟩
  | 30 => ⟨S8x8x256x1024, .f32⟩
  | 31 => ⟨S_, .i32⟩
  | 32 => ⟨S_, .i1⟩
  | 33 => ⟨S_, .i32⟩
  | 34 => ⟨S_, .i32⟩
  | 35 => ⟨S1x256x512, .f32⟩
  | 36 => ⟨S256x512, .f32⟩
  | 37 => ⟨S_, .i32⟩
  | 38 => ⟨S1x256, .f32⟩
  | 39 => ⟨S256, .f32⟩
  | 40 => ⟨S_, .i32⟩
  | 41 => ⟨S1x256, .f32⟩
  | 42 => ⟨S256, .f32⟩
  | 43 => ⟨S_, .i32⟩
  | 44 => ⟨S_, .i32⟩
  | 45 => ⟨S1x512x256, .f32⟩
  | 46 => ⟨S512x256, .f32⟩
  | 47 => ⟨S_, .i32⟩
  | 48 => ⟨S1x512, .f32⟩
  | 49 => ⟨S512, .f32⟩
  | 50 => ⟨S_, .i32⟩
  | 51 => ⟨S1x512, .f32⟩
  | 52 => ⟨S512, .f32⟩
  | 53 => ⟨S_, .i32⟩
  | 54 => ⟨S_, .i32⟩
  | 55 => ⟨S1x1024x256, .f32⟩
  | 56 => ⟨S1024x256, .f32⟩
  | 57 => ⟨S256x512, .f32⟩
  | 58 => ⟨S_, .f32⟩
  | 59 => ⟨S256, .f32⟩
  | 60 => ⟨S256x1, .f32⟩
  | 61 => ⟨S256x1, .f32⟩
  | 62 => ⟨S256x1, .f32⟩
  | 63 => ⟨S256x512, .f32⟩
  | 64 => ⟨S256x512, .f32⟩
  | 65 => ⟨S_, .f32⟩
  | 66 => ⟨S256x1, .f32⟩
  | 67 => ⟨S256x1, .f32⟩
  | 68 => ⟨S256x512, .f32⟩
  | 69 => ⟨S256x512, .f32⟩
  | 70 => ⟨S512x256, .f32⟩
  | 71 => ⟨S_, .f32⟩
  | 72 => ⟨S512, .f32⟩
  | 73 => ⟨S512x1, .f32⟩
  | 74 => ⟨S512x1, .f32⟩
  | 75 => ⟨S512x1, .f32⟩
  | 76 => ⟨S512x256, .f32⟩
  | 77 => ⟨S512x256, .f32⟩
  | 78 => ⟨S_, .f32⟩
  | 79 => ⟨S512x1, .f32⟩
  | 80 => ⟨S512x1, .f32⟩
  | 81 => ⟨S512x256, .f32⟩
  | 82 => ⟨S512x256, .f32⟩
  | 83 => ⟨S8x1024x256, .f32⟩
  | 84 => ⟨S8x256x1024, .f32⟩
  | 85 => ⟨S1x256x1, .f32⟩
  | 86 => ⟨S8x256x1024, .f32⟩
  | 87 => ⟨S8x256x1024, .f32⟩
  | 88 => ⟨S8x1024x256, .f32⟩
  | 89 => ⟨S8192x256, .f32⟩
  | 90 => ⟨S8192x256, .f32⟩
  | 91 => ⟨S_, .f32⟩
  | 92 => ⟨S8192, .f32⟩
  | 93 => ⟨S8192x1, .f32⟩
  | 94 => ⟨S8192x1, .f32⟩
  | 95 => ⟨S_, .f32⟩
  | 96 => ⟨S8192x1, .f32⟩
  | 97 => ⟨S8192x1, .f32⟩
  | 98 => ⟨S8192x256, .f32⟩
  | 99 => ⟨S8192x256, .f32⟩
  | 100 => ⟨S1024x256, .f32⟩
  | 101 => ⟨S_, .f32⟩
  | 102 => ⟨S1024, .f32⟩
  | 103 => ⟨S1024x1, .f32⟩
  | 104 => ⟨S1024x1, .f32⟩
  | 105 => ⟨S_, .f32⟩
  | 106 => ⟨S1024x1, .f32⟩
  | 107 => ⟨S1024x1, .f32⟩
  | 108 => ⟨S1024x256, .f32⟩
  | 109 => ⟨S1024x256, .f32⟩
  | 110 => ⟨S8192x256, .f32⟩
  | 111 => ⟨S_, .f32⟩
  | 112 => ⟨S8192, .f32⟩
  | 113 => ⟨S8192x1, .f32⟩
  | 114 => ⟨S_, .f32⟩
  | 115 => ⟨S8192x256, .f32⟩
  | 116 => ⟨S8192x256, .f32⟩
  | 117 => ⟨S256x1024, .f32⟩
  | 118 => ⟨S8192x1024, .f32⟩
  | 119 => ⟨S8192x1024, .f32⟩
  | 120 => ⟨S8192x1024, .f32⟩
  | 121 => ⟨S1024x256, .f32⟩
  | 122 => ⟨S_, .f32⟩
  | 123 => ⟨S1024, .f32⟩
  | 124 => ⟨S1x1024, .f32⟩
  | 125 => ⟨S8192x1024, .f32⟩
  | 126 => ⟨S8192x1024, .f32⟩
  | 127 => ⟨S8192x1024, .f32⟩
  | _ => ⟨S8x512x1024, .f32⟩

abbrev hbmTy0_1 (i : Nat) : BufTy := match i % 128 with
  | 0 => ⟨S8192x1024, .i32⟩
  | 1 => ⟨S_, .f32⟩
  | 2 => ⟨S_, .i32⟩
  | 3 => ⟨S8192, .f32⟩
  | 4 => ⟨S8192, .i32⟩
  | 5 => ⟨S8x1024, .i32⟩
  | 6 => ⟨S_, .i32⟩
  | 7 => ⟨S8x1024, .i32⟩
  | 8 => ⟨S8x1024, .i1⟩
  | 9 => ⟨S_, .i32⟩
  | 10 => ⟨S8x1024, .i32⟩
  | 11 => ⟨S8x1024, .i32⟩
  | 12 => ⟨S8x1024, .i32⟩
  | 13 => ⟨S8x1024x1, .i32⟩
  | 14 => ⟨S1, .i32⟩
  | 15 => ⟨S_, .i32⟩
  | 16 => ⟨S8x1024x1, .i32⟩
  | 17 => ⟨S8x1024x1, .i1⟩
  | 18 => ⟨S1x1x1, .i32⟩
  | 19 => ⟨S8x1024x1, .i32⟩
  | 20 => ⟨S8x1024x1, .i1⟩
  | 21 => ⟨S8x1024x1, .i1⟩
  | 22 => ⟨S_, .i1⟩
  | 23 => ⟨S8x1024, .i1⟩
  | 24 => ⟨S8x1024x256, .f32⟩
  | 25 => ⟨S8x1024x256, .i1⟩
  | 26 => ⟨S_, .f32⟩
  | 27 => ⟨S8x1024x256, .f32⟩
  | 28 => ⟨S8x1024x256, .f32⟩
  | 29 => ⟨S8x256x1024, .f32⟩
  | 30 => ⟨S8x256x1024, .f32⟩
  | 31 => ⟨S8x256x1024, .f32⟩
  | 32 => ⟨S_, .f32⟩
  | 33 => ⟨S8, .f32⟩
  | 34 => ⟨S_, .f32⟩
  | 35 => ⟨S8, .f32⟩
  | 36 => ⟨S8, .f32⟩
  | 37 => ⟨S_, .f32⟩
  | 38 => ⟨S_, .f32⟩
  | 39 => ⟨S_, .f32⟩
  | 40 => ⟨S_, .f32⟩
  | 41 => ⟨S_, .f32⟩
  | 42 => ⟨S8x256x1024, .f32⟩
  | 43 => ⟨S8x256x1024, .f32⟩
  | 44 => ⟨S_, .f32⟩
  | 45 => ⟨S8, .f32⟩
  | 46 => ⟨S_, .f32⟩
  | 47 => ⟨S8, .f32⟩
  | 48 => ⟨S8, .f32⟩
  | 49 => ⟨S_, .f32⟩
  | 50 => ⟨S_, .f32⟩
  | 51 => ⟨S_, .f32⟩
  | 52 => ⟨S_, .f32⟩
  | 53 => ⟨S_, .f32⟩
  | 54 => ⟨S8x256x1024, .f32⟩
  | 55 => ⟨S8x256x1024, .f32⟩
  | 56 => ⟨S8x1024x512, .f32⟩
  | 57 => ⟨S8x512x1024, .f32⟩
  | 58 => ⟨S1x512x1, .f32⟩
  | 59 => ⟨S8x512x1024, .f32⟩
  | 60 => ⟨S8x512x1024, .f32⟩
  | 61 => ⟨S8x512x1024, .f32⟩
  | 62 => ⟨S8x512x1024, .f32⟩
  | 63 => ⟨S1x8x1024, .i32⟩
  | 64 => ⟨S_, .i32⟩
  | 65 => ⟨S_, .i32⟩
  | 66 => ⟨S8x8x1024, .i32⟩
  | 67 => ⟨S1x8x256x1024, .f32⟩
  | 68 => ⟨S_, .i32⟩
  | 69 => ⟨S_, .i32⟩
  | 70 => ⟨S_, .i32⟩
  | 71 => ⟨S8x8x256x1024, .f32⟩
  | 72 => ⟨S_, .i32⟩
  | 73 => ⟨S_, .i32⟩
  | 74 => ⟨S8x8x1024, .i32⟩
  | 75 => ⟨S8x8x256x1024, .f32⟩
  | 76 => ⟨S8x2048x1024, .f32⟩
  | _ => ⟨S8x512x1024, .f32⟩

abbrev hbmTy (i : Nat) : BufTy := match i / 128 with
  | 0 => hbmTy0_0 i
  | 1 => hbmTy0_1 i
  | _ => ⟨S8x512x1024, .f32⟩

abbrev bufTy : (tb : Table) → Fin (tcTables nBuf tb) → BufTy
  | .hbm, ⟨i, _⟩ => hbmTy i
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_cst_1 : Ref sig .tc := ⟨.hbm, 11, rfl⟩
abbrev main_c : Ref sig .tc := ⟨.hbm, 12, rfl⟩
abbrev main_v1 : Ref sig .tc := ⟨.hbm, 13, rfl⟩
abbrev main_cst_2 : Ref sig .tc := ⟨.hbm, 14, rfl⟩
abbrev main_v2 : Ref sig .tc := ⟨.hbm, 15, rfl⟩
abbrev main_c_3 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v3_4 : Ref sig .tc := ⟨.hbm, 21, rfl⟩
abbrev main_v3_5 : Ref sig .tc := ⟨.hbm, 22, rfl⟩
abbrev main_v3_6 : Ref sig .tc := ⟨.hbm, 23, rfl⟩
abbrev main_v3_7 : Ref sig .tc := ⟨.hbm, 24, rfl⟩
abbrev main_v3_8 : Ref sig .tc := ⟨.hbm, 25, rfl⟩
abbrev main_v3_9 : Ref sig .tc := ⟨.hbm, 26, rfl⟩
abbrev main_v3_10 : Ref sig .tc := ⟨.hbm, 27, rfl⟩
abbrev main_v3_11 : Ref sig .tc := ⟨.hbm, 28, rfl⟩
abbrev main_v3_12 : Ref sig .tc := ⟨.hbm, 29, rfl⟩
abbrev main_v3_13 : Ref sig .tc := ⟨.hbm, 30, rfl⟩
abbrev main_while0c_c_17 : Ref sig .tc := ⟨.hbm, 31, rfl⟩
abbrev main_while0c_v7 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_v0 : Ref sig .tc := ⟨.hbm, 35, rfl⟩
abbrev main_while0b_v7 : Ref sig .tc := ⟨.hbm, 36, rfl⟩
abbrev main_while0b_call1_c : Ref sig .tc := ⟨.hbm, 37, rfl⟩
abbrev main_while0b_call1_v0 : Ref sig .tc := ⟨.hbm, 38, rfl⟩
abbrev main_while0b_v8 : Ref sig .tc := ⟨.hbm, 39, rfl⟩
abbrev main_while0b_call2_c : Ref sig .tc := ⟨.hbm, 40, rfl⟩
abbrev main_while0b_call2_v0 : Ref sig .tc := ⟨.hbm, 41, rfl⟩
abbrev main_while0b_v9 : Ref sig .tc := ⟨.hbm, 42, rfl⟩
abbrev main_while0b_call3_c : Ref sig .tc := ⟨.hbm, 43, rfl⟩
abbrev main_while0b_call3_c_0 : Ref sig .tc := ⟨.hbm, 44, rfl⟩
abbrev main_while0b_call3_v0 : Ref sig .tc := ⟨.hbm, 45, rfl⟩
abbrev main_while0b_v10 : Ref sig .tc := ⟨.hbm, 46, rfl⟩
abbrev main_while0b_call4_c : Ref sig .tc := ⟨.hbm, 47, rfl⟩
abbrev main_while0b_call4_v0 : Ref sig .tc := ⟨.hbm, 48, rfl⟩
abbrev main_while0b_v11 : Ref sig .tc := ⟨.hbm, 49, rfl⟩
abbrev main_while0b_call5_c : Ref sig .tc := ⟨.hbm, 50, rfl⟩
abbrev main_while0b_call5_v0 : Ref sig .tc := ⟨.hbm, 51, rfl⟩
abbrev main_while0b_v12 : Ref sig .tc := ⟨.hbm, 52, rfl⟩
abbrev main_while0b_call6_c : Ref sig .tc := ⟨.hbm, 53, rfl⟩
abbrev main_while0b_call6_c_0 : Ref sig .tc := ⟨.hbm, 54, rfl⟩
abbrev main_while0b_call6_v0 : Ref sig .tc := ⟨.hbm, 55, rfl⟩
abbrev main_while0b_v13 : Ref sig .tc := ⟨.hbm, 56, rfl⟩
abbrev main_while0b_v14 : Ref sig .tc := ⟨.hbm, 57, rfl⟩
abbrev main_while0b_cst_17 : Ref sig .tc := ⟨.hbm, 58, rfl⟩
abbrev main_while0b_v15 : Ref sig .tc := ⟨.hbm, 59, rfl⟩
abbrev main_while0b_v16 : Ref sig .tc := ⟨.hbm, 60, rfl⟩
abbrev main_while0b_v17 : Ref sig .tc := ⟨.hbm, 61, rfl⟩
abbrev main_while0b_v18 : Ref sig .tc := ⟨.hbm, 62, rfl⟩
abbrev main_while0b_v19 : Ref sig .tc := ⟨.hbm, 63, rfl⟩
abbrev main_while0b_v20 : Ref sig .tc := ⟨.hbm, 64, rfl⟩
abbrev main_while0b_cst_18 : Ref sig .tc := ⟨.hbm, 65, rfl⟩
abbrev main_while0b_v21 : Ref sig .tc := ⟨.hbm, 66, rfl⟩
abbrev main_while0b_v22 : Ref sig .tc := ⟨.hbm, 67, rfl⟩
abbrev main_while0b_v23 : Ref sig .tc := ⟨.hbm, 68, rfl⟩
abbrev main_while0b_v24 : Ref sig .tc := ⟨.hbm, 69, rfl⟩
abbrev main_while0b_v25 : Ref sig .tc := ⟨.hbm, 70, rfl⟩
abbrev main_while0b_cst_19 : Ref sig .tc := ⟨.hbm, 71, rfl⟩
abbrev main_while0b_v26 : Ref sig .tc := ⟨.hbm, 72, rfl⟩
abbrev main_while0b_v27 : Ref sig .tc := ⟨.hbm, 73, rfl⟩
abbrev main_while0b_v28 : Ref sig .tc := ⟨.hbm, 74, rfl⟩
abbrev main_while0b_v29 : Ref sig .tc := ⟨.hbm, 75, rfl⟩
abbrev main_while0b_v30 : Ref sig .tc := ⟨.hbm, 76, rfl⟩
abbrev main_while0b_v31 : Ref sig .tc := ⟨.hbm, 77, rfl⟩
abbrev main_while0b_cst_20 : Ref sig .tc := ⟨.hbm, 78, rfl⟩
abbrev main_while0b_v32 : Ref sig .tc := ⟨.hbm, 79, rfl⟩
abbrev main_while0b_v33 : Ref sig .tc := ⟨.hbm, 80, rfl⟩
abbrev main_while0b_v34 : Ref sig .tc := ⟨.hbm, 81, rfl⟩
abbrev main_while0b_v35 : Ref sig .tc := ⟨.hbm, 82, rfl⟩
abbrev main_while0b_v36 : Ref sig .tc := ⟨.hbm, 83, rfl⟩
abbrev main_while0b_v37 : Ref sig .tc := ⟨.hbm, 84, rfl⟩
abbrev main_while0b_v38 : Ref sig .tc := ⟨.hbm, 85, rfl⟩
abbrev main_while0b_v39 : Ref sig .tc := ⟨.hbm, 86, rfl⟩
abbrev main_while0b_v40 : Ref sig .tc := ⟨.hbm, 87, rfl⟩
abbrev main_while0b_v41 : Ref sig .tc := ⟨.hbm, 88, rfl⟩
abbrev main_while0b_v42 : Ref sig .tc := ⟨.hbm, 89, rfl⟩
abbrev main_while0b_v43 : Ref sig .tc := ⟨.hbm, 90, rfl⟩
abbrev main_while0b_cst_21 : Ref sig .tc := ⟨.hbm, 91, rfl⟩
abbrev main_while0b_v44 : Ref sig .tc := ⟨.hbm, 92, rfl⟩
abbrev main_while0b_v45 : Ref sig .tc := ⟨.hbm, 93, rfl⟩
abbrev main_while0b_v46 : Ref sig .tc := ⟨.hbm, 94, rfl⟩
abbrev main_while0b_cst_22 : Ref sig .tc := ⟨.hbm, 95, rfl⟩
abbrev main_while0b_v47 : Ref sig .tc := ⟨.hbm, 96, rfl⟩
abbrev main_while0b_v48 : Ref sig .tc := ⟨.hbm, 97, rfl⟩
abbrev main_while0b_v49 : Ref sig .tc := ⟨.hbm, 98, rfl⟩
abbrev main_while0b_v50 : Ref sig .tc := ⟨.hbm, 99, rfl⟩
abbrev main_while0b_v51 : Ref sig .tc := ⟨.hbm, 100, rfl⟩
abbrev main_while0b_cst_23 : Ref sig .tc := ⟨.hbm, 101, rfl⟩
abbrev main_while0b_v52 : Ref sig .tc := ⟨.hbm, 102, rfl⟩
abbrev main_while0b_v53 : Ref sig .tc := ⟨.hbm, 103, rfl⟩
abbrev main_while0b_v54 : Ref sig .tc := ⟨.hbm, 104, rfl⟩
abbrev main_while0b_cst_24 : Ref sig .tc := ⟨.hbm, 105, rfl⟩
abbrev main_while0b_v55 : Ref sig .tc := ⟨.hbm, 106, rfl⟩
abbrev main_while0b_v56 : Ref sig .tc := ⟨.hbm, 107, rfl⟩
abbrev main_while0b_v57 : Ref sig .tc := ⟨.hbm, 108, rfl⟩
abbrev main_while0b_v58 : Ref sig .tc := ⟨.hbm, 109, rfl⟩
abbrev main_while0b_v59 : Ref sig .tc := ⟨.hbm, 110, rfl⟩
abbrev main_while0b_cst_25 : Ref sig .tc := ⟨.hbm, 111, rfl⟩
abbrev main_while0b_v60 : Ref sig .tc := ⟨.hbm, 112, rfl⟩
abbrev main_while0b_v61 : Ref sig .tc := ⟨.hbm, 113, rfl⟩
abbrev main_while0b_cst_26 : Ref sig .tc := ⟨.hbm, 114, rfl⟩
abbrev main_while0b_v62 : Ref sig .tc := ⟨.hbm, 115, rfl⟩
abbrev main_while0b_v63 : Ref sig .tc := ⟨.hbm, 116, rfl⟩
abbrev main_while0b_v64 : Ref sig .tc := ⟨.hbm, 117, rfl⟩
abbrev main_while0b_v65 : Ref sig .tc := ⟨.hbm, 118, rfl⟩
abbrev main_while0b_v66 : Ref sig .tc := ⟨.hbm, 119, rfl⟩
abbrev main_while0b_v67 : Ref sig .tc := ⟨.hbm, 120, rfl⟩
abbrev main_while0b_v68 : Ref sig .tc := ⟨.hbm, 121, rfl⟩
abbrev main_while0b_cst_27 : Ref sig .tc := ⟨.hbm, 122, rfl⟩
abbrev main_while0b_v69 : Ref sig .tc := ⟨.hbm, 123, rfl⟩
abbrev main_while0b_v70 : Ref sig .tc := ⟨.hbm, 124, rfl⟩
abbrev main_while0b_v71 : Ref sig .tc := ⟨.hbm, 125, rfl⟩
abbrev main_while0b_v72 : Ref sig .tc := ⟨.hbm, 126, rfl⟩
abbrev main_while0b_v73 : Ref sig .tc := ⟨.hbm, 127, rfl⟩
abbrev main_while0b_call7_v0 : Ref sig .tc := ⟨.hbm, 128, rfl⟩
abbrev main_while0b_call7_cst : Ref sig .tc := ⟨.hbm, 129, rfl⟩
abbrev main_while0b_call7_c : Ref sig .tc := ⟨.hbm, 130, rfl⟩
abbrev main_while0b_call7_v1_0 : Ref sig .tc := ⟨.hbm, 131, rfl⟩
abbrev main_while0b_v74 : Ref sig .tc := ⟨.hbm, 132, rfl⟩
abbrev main_while0b_v75 : Ref sig .tc := ⟨.hbm, 133, rfl⟩
abbrev main_while0b_call8_c : Ref sig .tc := ⟨.hbm, 134, rfl⟩
abbrev main_while0b_call8_v0 : Ref sig .tc := ⟨.hbm, 135, rfl⟩
abbrev main_while0b_call8_v1 : Ref sig .tc := ⟨.hbm, 136, rfl⟩
abbrev main_while0b_call8_c_0 : Ref sig .tc := ⟨.hbm, 137, rfl⟩
abbrev main_while0b_call8_v2 : Ref sig .tc := ⟨.hbm, 138, rfl⟩
abbrev main_while0b_call8_v3 : Ref sig .tc := ⟨.hbm, 139, rfl⟩
abbrev main_while0b_call8_v4 : Ref sig .tc := ⟨.hbm, 140, rfl⟩
abbrev main_while0b_call8_v5 : Ref sig .tc := ⟨.hbm, 141, rfl⟩
abbrev main_while0b_call8_c_1 : Ref sig .tc := ⟨.hbm, 142, rfl⟩
abbrev main_while0b_call8_c_2 : Ref sig .tc := ⟨.hbm, 143, rfl⟩
abbrev main_while0b_call8_v6 : Ref sig .tc := ⟨.hbm, 144, rfl⟩
abbrev main_while0b_call8_v7 : Ref sig .tc := ⟨.hbm, 145, rfl⟩
abbrev main_while0b_call8_v8 : Ref sig .tc := ⟨.hbm, 146, rfl⟩
abbrev main_while0b_call8_v9 : Ref sig .tc := ⟨.hbm, 147, rfl⟩
abbrev main_while0b_call8_v10 : Ref sig .tc := ⟨.hbm, 148, rfl⟩
abbrev main_while0b_call8_v11 : Ref sig .tc := ⟨.hbm, 149, rfl⟩
abbrev main_while0b_call8_c_3 : Ref sig .tc := ⟨.hbm, 150, rfl⟩
abbrev main_while0b_call8_v12 : Ref sig .tc := ⟨.hbm, 151, rfl⟩
abbrev main_while0b_call8_v13 : Ref sig .tc := ⟨.hbm, 152, rfl⟩
abbrev main_while0b_call8_v14 : Ref sig .tc := ⟨.hbm, 153, rfl⟩
abbrev main_while0b_call8_cst : Ref sig .tc := ⟨.hbm, 154, rfl⟩
abbrev main_while0b_call8_v15 : Ref sig .tc := ⟨.hbm, 155, rfl⟩
abbrev main_while0b_v76 : Ref sig .tc := ⟨.hbm, 156, rfl⟩
abbrev main_while0b_v77 : Ref sig .tc := ⟨.hbm, 157, rfl⟩
abbrev main_while0b_v78 : Ref sig .tc := ⟨.hbm, 158, rfl⟩
abbrev main_while0b_v79 : Ref sig .tc := ⟨.hbm, 159, rfl⟩
abbrev main_while0b_cst_28 : Ref sig .tc := ⟨.hbm, 160, rfl⟩
abbrev main_while0b_v80 : Ref sig .tc := ⟨.hbm, 161, rfl⟩
abbrev main_while0b_cst_29 : Ref sig .tc := ⟨.hbm, 162, rfl⟩
abbrev main_while0b_v81 : Ref sig .tc := ⟨.hbm, 163, rfl⟩
abbrev main_while0b_v82 : Ref sig .tc := ⟨.hbm, 164, rfl⟩
abbrev main_while0b_cst_30 : Ref sig .tc := ⟨.hbm, 165, rfl⟩
abbrev main_while0b_v83 : Ref sig .tc := ⟨.hbm, 166, rfl⟩
abbrev main_while0b_cst_31 : Ref sig .tc := ⟨.hbm, 167, rfl⟩
abbrev main_while0b_v84 : Ref sig .tc := ⟨.hbm, 168, rfl⟩
abbrev main_while0b_v85 : Ref sig .tc := ⟨.hbm, 169, rfl⟩
abbrev main_while0b_v86 : Ref sig .tc := ⟨.hbm, 170, rfl⟩
abbrev main_while0b_v87 : Ref sig .tc := ⟨.hbm, 171, rfl⟩
abbrev main_while0b_cst_32 : Ref sig .tc := ⟨.hbm, 172, rfl⟩
abbrev main_while0b_v88 : Ref sig .tc := ⟨.hbm, 173, rfl⟩
abbrev main_while0b_cst_33 : Ref sig .tc := ⟨.hbm, 174, rfl⟩
abbrev main_while0b_v89 : Ref sig .tc := ⟨.hbm, 175, rfl⟩
abbrev main_while0b_v90 : Ref sig .tc := ⟨.hbm, 176, rfl⟩
abbrev main_while0b_cst_34 : Ref sig .tc := ⟨.hbm, 177, rfl⟩
abbrev main_while0b_v91 : Ref sig .tc := ⟨.hbm, 178, rfl⟩
abbrev main_while0b_cst_35 : Ref sig .tc := ⟨.hbm, 179, rfl⟩
abbrev main_while0b_v92 : Ref sig .tc := ⟨.hbm, 180, rfl⟩
abbrev main_while0b_v93 : Ref sig .tc := ⟨.hbm, 181, rfl⟩
abbrev main_while0b_v94 : Ref sig .tc := ⟨.hbm, 182, rfl⟩
abbrev main_while0b_v95 : Ref sig .tc := ⟨.hbm, 183, rfl⟩
abbrev main_while0b_v96 : Ref sig .tc := ⟨.hbm, 184, rfl⟩
abbrev main_while0b_v97 : Ref sig .tc := ⟨.hbm, 185, rfl⟩
abbrev main_while0b_v98 : Ref sig .tc := ⟨.hbm, 186, rfl⟩
abbrev main_while0b_v99 : Ref sig .tc := ⟨.hbm, 187, rfl⟩
abbrev main_while0b_v100 : Ref sig .tc := ⟨.hbm, 188, rfl⟩
abbrev main_while0b_v101 : Ref sig .tc := ⟨.hbm, 189, rfl⟩
abbrev main_while0b_v102 : Ref sig .tc := ⟨.hbm, 190, rfl⟩
abbrev main_while0b_call9_v0 : Ref sig .tc := ⟨.hbm, 191, rfl⟩
abbrev main_while0b_call9_c : Ref sig .tc := ⟨.hbm, 192, rfl⟩
abbrev main_while0b_call9_c_0 : Ref sig .tc := ⟨.hbm, 193, rfl⟩
abbrev main_while0b_v103 : Ref sig .tc := ⟨.hbm, 194, rfl⟩
abbrev main_while0b_call10_v0 : Ref sig .tc := ⟨.hbm, 195, rfl⟩
abbrev main_while0b_call10_c : Ref sig .tc := ⟨.hbm, 196, rfl⟩
abbrev main_while0b_call10_c_0 : Ref sig .tc := ⟨.hbm, 197, rfl⟩
abbrev main_while0b_call10_c_1 : Ref sig .tc := ⟨.hbm, 198, rfl⟩
abbrev main_while0b_v104 : Ref sig .tc := ⟨.hbm, 199, rfl⟩
abbrev main_while0b_c_36 : Ref sig .tc := ⟨.hbm, 200, rfl⟩
abbrev main_while0b_v105 : Ref sig .tc := ⟨.hbm, 201, rfl⟩
abbrev main_v4 : Ref sig .tc := ⟨.hbm, 202, rfl⟩
abbrev main_v5 : Ref sig .tc := ⟨.hbm, 203, rfl⟩
abbrev main_v6 : Ref sig .tc := ⟨.hbm, 204, rfl⟩

abbrev nD : Nat := 1
abbrev τ : Topo := Topo.v7x

variable {F : FTy → Type} [FloatOps F]

abbrev main_while0_count : Scf.Loop 32 := ⟨0#32, 8#32, 1#32⟩
-- ==== Proof.Model.lean ====
/-
  The residual vector quantiser over the reals, column by column: what both programs compute when every argument is finite.
-/
module

public import Idealize.ShloMosaic.Lib.Pointwise

@[expose] public section

noncomputable section

namespace Cert.Rvq

/-! ## The first position of the maximum -/

/-- Some position holds the maximum of a finite list of reals. -/
theorem exists_max {n : ℕ} [NeZero n] (f : Fin n → ℝ) : (Finset.univ.filter fun k => ∀ i, f i ≤ f k).Nonempty := by
  obtain ⟨k, -, hk⟩ := Finset.exists_max_image (Finset.univ : Finset (Fin n)) f ⟨0, Finset.mem_univ _⟩
  exact ⟨k, Finset.mem_filter.2 ⟨Finset.mem_univ _, fun i => hk i (Finset.mem_univ _)⟩⟩

/-- The least position at which `f` is greatest. -/
def firstMax {n : ℕ} [NeZero n] (f : Fin n → ℝ) : Fin n := (Finset.univ.filter fun k => ∀ i, f i ≤ f k).min' (exists_max f)

/-- No value exceeds the one at the first maximum. -/
theorem le_firstMax {n : ℕ} [NeZero n] (f : Fin n → ℝ) (i : Fin n) : f i ≤ f (firstMax f) :=
  (Finset.mem_filter.1 (Finset.min'_mem _ (exists_max f))).2 i

/-- A position that holds the maximum is not before the first maximum. -/
theorem firstMax_le {n : ℕ} [NeZero n] (f : Fin n → ℝ) (k : Fin n) (hk : ∀ i, f i ≤ f k) : firstMax f ≤ k :=
  Finset.min'_le _ _ (Finset.mem_filter.2 ⟨Finset.mem_univ _, hk⟩)

/-- A maximum that no earlier position reaches is the first maximum. -/
theorem firstMax_eq {n : ℕ} [NeZero n] (f : Fin n → ℝ) (k : Fin n) (h : ∀ i, f i ≤ f k) (h' : ∀ i, i < k → f i < f k) :
    firstMax f = k := by
  refine le_antisymm (firstMax_le f k h) (le_of_not_gt fun hlt => ?_)
  exact absurd (le_firstMax f k) (not_le.2 (h' _ hlt))

/-- Before the first maximum every value is smaller. -/
theorem lt_firstMax {n : ℕ} [NeZero n] (f : Fin n → ℝ) (i : Fin n) (hi : i < firstMax f) : f i < f (firstMax f) := by
  refine lt_of_le_of_ne (le_firstMax f i) fun he => absurd (firstMax_le f i fun l => ?_) (not_le.2 hi)
  exact he ▸ le_firstMax f l

/-- Lists ordered alike have the same first maximum. -/
theorem firstMax_congr {n : ℕ} [NeZero n] (f g : Fin n → ℝ) (h : ∀ i k, g i ≤ g k ↔ f i ≤ f k) : firstMax g = firstMax f :=
  firstMax_eq g _ (fun i => (h _ _).2 (le_firstMax f i))
    (fun i hi => lt_of_not_ge fun hge => absurd ((h _ _).1 hge) (not_le.2 (lt_firstMax f i hi)))

/-! ## The model -/

/-- The smallest norm a vector is divided by: the rational nearest below `1e-12`'s binary32 word. -/
def eps : ℝ := 9223372 / 2 ^ 63

theorem eps_pos : 0 < eps := by unfold eps; norm_num

/-- A vector's Euclidean norm, clamped from below. -/
def nrm {n : ℕ} (v : Fin n → ℝ) : ℝ := max (Real.sqrt (∑ i, v i * v i)) eps

theorem nrm_pos {n : ℕ} (v : Fin n → ℝ) : 0 < nrm v := lt_max_of_lt_right eps_pos

theorem nrm_ne {n : ℕ} (v : Fin n → ℝ) : nrm v ≠ 0 := (nrm_pos v).ne'

/-- The arguments as reals. -/
structure Args where
  /-- the input, by batch, channel and time -/
  z : Fin 8 → Fin 512 → Fin 1024 → ℝ
  /-- the input projections' directions -/
  inV : Fin 8 → Fin 256 → Fin 512 → ℝ
  /-- the input projections' lengths -/
  inG : Fin 8 → Fin 256 → ℝ
  /-- the input projections' biases -/
  inB : Fin 8 → Fin 256 → ℝ
  /-- the output projections' directions -/
  outV : Fin 8 → Fin 512 → Fin 256 → ℝ
  /-- the output projections' lengths -/
  outG : Fin 8 → Fin 512 → ℝ
  /-- the output projections' biases -/
  outB : Fin 8 → Fin 512 → ℝ
  /-- the codebooks -/
  cb : Fin 8 → Fin 1024 → Fin 256 → ℝ

variable (A : Args)

/-- Round `j`'s weight-normalised input projection. -/
def wIn (j : Fin 8) (c : Fin 256) (d : Fin 512) : ℝ := A.inG j c * A.inV j c d / nrm (A.inV j c)

/-- Round `j`'s weight-normalised output projection. -/
def wOut (j : Fin 8) (d : Fin 512) (c : Fin 256) : ℝ := A.outG j d * A.outV j d c / nrm (A.outV j d)

/-- Round `j`'s normalised codebook. -/
def cbn (j : Fin 8) (k : Fin 1024) (c : Fin 256) : ℝ := A.cb j k c / nrm (A.cb j k)

/-- The latent of a residual column. -/
def ze (j : Fin 8) (r : Fin 512 → ℝ) (c : Fin 256) : ℝ := (∑ d, wIn A j c d * r d) + A.inB j c

/-- The normalised latent. -/
def encn (j : Fin 8) (r : Fin 512 → ℝ) (c : Fin 256) : ℝ := ze A j r c / nrm (ze A j r)

/-- The latent's cosine with each row of the codebook. -/
def score (j : Fin 8) (r : Fin 512 → ℝ) (k : Fin 1024) : ℝ := ∑ c, cbn A j k c * encn A j r c

/-- The code: the first row of the greatest cosine. -/
def pick (j : Fin 8) (r : Fin 512 → ℝ) : Fin 1024 := firstMax (score A j r)

/-- The codebook's row at the code. -/
def zq (j : Fin 8) (r : Fin 512 → ℝ) (c : Fin 256) : ℝ := A.cb j (pick A j r) c

/-- The round's contribution to the quantised input. -/
def out (j : Fin 8) (r : Fin 512 → ℝ) (d : Fin 512) : ℝ := (∑ c, wOut A j d c * zq A j r c) + A.outB j d

/-- The residual after the round. -/
def next (j : Fin 8) (r : Fin 512 → ℝ) (d : Fin 512) : ℝ := r d - out A j r d

/-- The squared distance of a column's latent from its row of the codebook. -/
def err (j : Fin 8) (r : Fin 512 → ℝ) : ℝ := ∑ c, (ze A j r c - zq A j r c) * (ze A j r c - zq A j r c)

/-- Round `n` as an index. -/
def rnd (n : ℕ) : Fin 8 := ⟨n % 8, Nat.mod_lt _ (by norm_num)⟩

/-- The residual column at batch `b` and time `t` before round `n`. -/
def res (b : Fin 8) (t : Fin 1024) : ℕ → Fin 512 → ℝ
  | 0 => fun d => A.z b d t
  | n + 1 => next A (rnd n) (res b t n)

/-- The total of the squared distances of batch `b` in round `n`. -/
def errs (b : Fin 8) (n : ℕ) : ℝ := ∑ c : Fin 256, ∑ t : Fin 1024,
  (ze A (rnd n) (res A b t n) c - zq A (rnd n) (res A b t n) c) * (ze A (rnd n) (res A b t n) c - zq A (rnd n) (res A b t n) c)

/-- The loss: the mean square over batches, channels and times, added up over the rounds. -/
def loss : ℝ := ∑ n ∈ Finset.range 8, (∑ b, errs A b n) / 2097152

/-! ## What the nearest row has to do with the cosine -/

/-- The squared length of a vector of norm at least the clamp, divided by its norm, is one. -/
theorem sum_sq_unit {n : ℕ} (v : Fin n → ℝ) (h : eps ≤ Real.sqrt (∑ i, v i * v i)) : ∑ i, v i / nrm v * (v i / nrm v) = 1 := by
  have hn : nrm v = Real.sqrt (∑ i, v i * v i) := max_eq_left h
  have h0 : 0 ≤ ∑ i, v i * v i := Finset.sum_nonneg fun i _ => mul_self_nonneg _
  have hs : nrm v * nrm v = ∑ i, v i * v i := by rw [hn, Real.mul_self_sqrt h0]
  calc ∑ i, v i / nrm v * (v i / nrm v) = ∑ i, v i * v i / (nrm v * nrm v) :=
        Finset.sum_congr rfl fun i _ => div_mul_div_comm _ _ _ _
    _ = (∑ i, v i * v i) / (nrm v * nrm v) := (Finset.sum_div _ _ _).symm
    _ = 1 := by rw [← hs]; exact div_self (mul_ne_zero (nrm_ne v) (nrm_ne v))

/-- The code is also the first row at the least distance from the normalised latent, when every row of the codebook is normalised to length one. -/
theorem pick_eq_nearest (j : Fin 8) (r : Fin 512 → ℝ) (hcb : ∀ k, eps ≤ Real.sqrt (∑ c, A.cb j k c * A.cb j k c)) (e : ℝ) :
    firstMax (fun k => -(e - (∑ c, 2 * encn A j r c * cbn A j k c) + ∑ c, cbn A j k c * cbn A j k c)) = pick A j r := by
  have hs : ∀ k, ∑ c, 2 * encn A j r c * cbn A j k c = 2 * score A j r k := fun k => by
    rw [score, Finset.mul_sum]; exact Finset.sum_congr rfl fun c _ => by ring
  refine firstMax_congr _ _ fun i k => ?_
  have h1 : ∀ k, ∑ c, cbn A j k c * cbn A j k c = 1 := fun k => sum_sq_unit _ (hcb k)
  simp only [hs, h1]
  constructor <;> intro h <;> linarith

end Cert.Rvq

end
-- ==== Proof.Reals.lean ====
/-
  Ideal arithmetic on finite values: sums, norms, maxima and first positions of the maximum.
-/
module

public import proofs.«01_k».proof.Proof.Model
public import Idealize.ShloMosaic.Lib.Pointwise

@[expose] public section

noncomputable section

namespace Cert.Rvq

open Idealize.ShloMosaic

/-- A finite sum of reals is the sum of the reals. -/
theorem coe_sum {ι : Type} (s : Finset ι) (f : ι → ℝ) : ∑ i ∈ s, (f i : EReal) = ((∑ i ∈ s, f i : ℝ) : EReal) := by
  classical
  refine Finset.induction_on s (by simp) fun a s ha ih => ?_
  rw [Finset.sum_insert ha, Finset.sum_insert ha, ih, EReal.coe_add]

/-- The binary32 word of zero. -/
theorem ofBits_zero : Ideal.ofBits .f32 0#32 = ((0 : ℝ) : EReal) := by
  simp [Ideal.ofBits, Ideal.ieee]

/-- The clamp's binary32 word. -/
theorem ofBits_eps : Ideal.ofBits .f32 730643660#32 = ((eps : ℝ) : EReal) := by
  simp [Ideal.ofBits, Ideal.ieee, eps, -EReal.coe_mul]; norm_num

/-- The word of plus infinity. -/
theorem ofBits_top : Ideal.ofBits .f32 2139095040#32 = (⊤ : EReal) := by
  simp [Ideal.ofBits, Ideal.ieee]

/-- The word of `2`. -/
theorem ofBits_two : Ideal.ofBits .f32 1073741824#32 = ((2 : ℝ) : EReal) := by
  simp [Ideal.ofBits, Ideal.ieee, -EReal.coe_mul]; norm_num

/-- The word of `8`. -/
theorem ofBits_eight : Ideal.ofBits .f32 1090519040#32 = ((8 : ℝ) : EReal) := by
  simp [Ideal.ofBits, Ideal.ieee, -EReal.coe_mul]; norm_num

/-- The word of `262144`, the latent's elements of one batch. -/
theorem ofBits_count : Ideal.ofBits .f32 1216348160#32 = ((262144 : ℝ) : EReal) := by
  simp [Ideal.ofBits, Ideal.ieee, -EReal.coe_mul]; norm_num

/-- The word of the inverse of `2097152`, the latent's elements. -/
theorem ofBits_inv_count : Ideal.ofBits .f32 889192448#32 = ((1 / 2097152 : ℝ) : EReal) := by
  simp [Ideal.ofBits, Ideal.ieee, -EReal.coe_mul]; norm_num

/-- The word of minus infinity. -/
theorem ofBits_bot : Ideal.ofBits .f32 4286578688#32 = (⊥ : EReal) := by
  simp [Ideal.ofBits, Ideal.ieee]

/-- A quotient of reals by a nonzero real. -/
theorem div_real (x y : ℝ) (h : y ≠ 0) : Ideal.div (x : EReal) (y : EReal) = ((x / y : ℝ) : EReal) := by
  rw [Ideal.div_coe h, ← EReal.coe_mul, mul_one_div]

/-- The clamped norm of a real vector. -/
theorem norm_real {n : ℕ} (v : Fin n → ℝ) :
    max (Ideal.sqrt (∑ i, (v i : EReal) * (v i : EReal))) (Ideal.ofBits .f32 730643660#32) = ((nrm v : ℝ) : EReal) := by
  simp only [← EReal.coe_mul, coe_sum]
  rw [Ideal.sqrt_coe, if_neg (not_lt.2 (Finset.sum_nonneg fun i _ => mul_self_nonneg _)), ofBits_eps, nrm]
  exact (EReal.coe_strictMono.monotone.map_max).symm

/-- The greatest of finitely many reals is the one at their first maximum. -/
theorem fold_max {n : ℕ} [NeZero n] (f : Fin n → ℝ) :
    Finset.fold max (⊥ : EReal) (fun k => (f k : EReal)) Finset.univ = ((f (firstMax f) : ℝ) : EReal) := by
  refine le_antisymm (Finset.fold_max_le _ |>.2 ⟨bot_le, fun k _ => EReal.coe_le_coe_iff.2 (le_firstMax f k)⟩) ?_
  exact Finset.le_fold_max _ |>.2 (.inr ⟨_, Finset.mem_univ _, le_rfl⟩)

/-- The signed value of a position's word. -/
theorem toInt_pos (k : Fin 1024) : (BitVec.ofNat 32 k.val).toInt = k.val := by
  have := k.isLt
  rw [BitVec.toInt_ofNat', Int.bmod_eq_of_le] <;> omega

/-- The signed minimum of words is the word of the lesser value. -/
theorem minsi_toInt (a b : BitVec 32) : (IntOp.minsi a b).toInt = min a.toInt b.toInt := by
  unfold IntOp.minsi
  simp only [BitVec.sle_eq_decide, BitVec.slt_eq_decide, decide_eq_true_eq]
  split <;> omega

/-- The least of finitely many words, by value. -/
theorem fold_minsi_toInt {n : ℕ} (a : BitVec 32) (f : Fin n → BitVec 32) :
    (Finset.fold IntOp.minsi a f Finset.univ).toInt = Finset.fold min a.toInt (fun k => (f k).toInt) Finset.univ :=
  (Finset.fold_hom (op := IntOp.minsi) (op' := min) (m := BitVec.toInt) (b := a) (f := f) (s := Finset.univ) minsi_toInt).symm

/-- The least position, among those whose value equals the greatest, is the first maximum. -/
theorem fold_min_firstMax (f : Fin 1024 → ℝ) :
    Finset.fold IntOp.minsi 2147483647#32 (fun k : Fin 1024 =>
      if (f k : EReal) = ((f (firstMax f) : ℝ) : EReal) then BitVec.ofNat 32 k.val else 1024#32) Finset.univ
      = BitVec.ofNat 32 (firstMax f).val := by
  refine BitVec.eq_of_toInt_eq ?_
  rw [fold_minsi_toInt, toInt_pos]
  have hm := (firstMax f).isLt
  refine le_antisymm ?_ ?_
  · refine (Finset.fold_min_le _).2 (.inr ⟨firstMax f, Finset.mem_univ _, ?_⟩)
    rw [if_pos rfl, toInt_pos]
  · refine (Finset.le_fold_min _).2 ⟨?_, fun k _ => ?_⟩
    · have : (2147483647#32 : BitVec 32).toInt = 2147483647 := by decide
      omega
    · split
      · next h =>
        rw [toInt_pos]
        have h' : f k = f (firstMax f) := EReal.coe_eq_coe_iff.1 h
        have := firstMax_le f k fun i => h' ▸ le_firstMax f i
        exact_mod_cast this
      · have : (1024#32 : BitVec 32).toInt = 1024 := by decide
        omega

/-- A sum against the indicator of one position is the term there. -/
theorem sum_indicator (f : Fin 1024 → ℝ) (p : Fin 1024) :
    ∑ k, (f k : EReal) * (((if k = p then 1 else 0 : ℝ)) : EReal) = ((f p : ℝ) : EReal) := by
  simp only [← EReal.coe_mul, coe_sum]
  simp

/-- Positions' words are distinct. -/
theorem ofNat_inj (k p : Fin 1024) : BitVec.ofNat 32 k.val = BitVec.ofNat 32 p.val ↔ k = p := by
  constructor
  · intro h
    have h' := congrArg BitVec.toInt h
    rw [toInt_pos, toInt_pos] at h'
    exact Fin.ext (by exact_mod_cast h')
  · rintro rfl; rfl

/-- The comparison of a position's word with another's, widened and read as a number, is the indicator of their equality. -/
theorem indicator_word (k p : Fin 1024) :
    (FloatOps.sitofp .f32 (BitVec.setWidth 32 (IntOp.cmpi .eq (BitVec.ofNat 32 k.val) (BitVec.ofNat 32 p.val))) : Ideal .f32)
      = (((if k = p then 1 else 0 : ℝ)) : EReal) := by
  have h : (FloatOps.sitofp .f32 (BitVec.setWidth 32 (IntOp.cmpi .eq (BitVec.ofNat 32 k.val) (BitVec.ofNat 32 p.val))) : Ideal .f32)
      = (((BitVec.setWidth 32 (IntOp.cmpi .eq (BitVec.ofNat 32 k.val) (BitVec.ofNat 32 p.val))).toInt : ℝ) : EReal) := rfl
  rw [h]
  by_cases hk : k = p
  · subst hk
    have : BitVec.setWidth 32 (IntOp.cmpi .eq (BitVec.ofNat 32 k.val) (BitVec.ofNat 32 k.val)) = 1#32 := by
      simp [IntOp.cmpi]
    rw [this, if_pos rfl]; norm_num
  · have hne : BitVec.ofNat 32 k.val ≠ BitVec.ofNat 32 p.val := fun h => hk ((ofNat_inj k p).1 h)
    have : BitVec.setWidth 32 (IntOp.cmpi .eq (BitVec.ofNat 32 k.val) (BitVec.ofNat 32 p.val)) = 0#32 := by
      have hb : (BitVec.ofNat 32 k.val == BitVec.ofNat 32 p.val) = false := beq_eq_false_iff_ne.2 hne
      simp only [IntOp.cmpi, hb]; rfl
    rw [this, if_neg hk]; norm_num

end Cert.Rvq

end
-- ==== Proof.Entry.lean ====
/-
  What the kernel's host operations leave in the windows' arrays when the arguments are the model's.
-/
module

public import proofs.«01_k».proof.Proof.Reals
public import proofs.«01_k».proof.Proof.Gen.KernelIdeal.Frame
public import Idealize.ShloMosaic.Lib.StableHlo.ReadAt

@[expose] public section

set_option maxRecDepth 16384

noncomputable section

namespace Cert.KernelIdeal.Entry

open Idealize.ShloMosaic Idealize.ShloMosaic.TcCoe Cert.KernelIdeal Cert.KernelIdeal.Gen Cert.Rvq

/-- The arguments on a device are the model's. -/
structure Encodes (A : Args) (m : (ℓ : Loc nD τ sig) → Buf (Elt Ideal) ℓ) (c : Dev nD) : Prop where
  /-- the input -/
  z : ∀ b d t, m (c, Proc.tc.devRef main_arg0) (ix3 b d t) = ((A.z b d t : ℝ) : EReal)
  /-- the input projections' directions -/
  inV : ∀ j k d, m (c, Proc.tc.devRef main_arg1) (ix3 j k d) = ((A.inV j k d : ℝ) : EReal)
  /-- the input projections' lengths -/
  inG : ∀ j k, m (c, Proc.tc.devRef main_arg2) (ix2 j k) = ((A.inG j k : ℝ) : EReal)
  /-- the input projections' biases -/
  inB : ∀ j k, m (c, Proc.tc.devRef main_arg3) (ix2 j k) = ((A.inB j k : ℝ) : EReal)
  /-- the output projections' directions -/
  outV : ∀ j d k, m (c, Proc.tc.devRef main_arg4) (ix3 j d k) = ((A.outV j d k : ℝ) : EReal)
  /-- the output projections' lengths -/
  outG : ∀ j d, m (c, Proc.tc.devRef main_arg5) (ix2 j d) = ((A.outG j d : ℝ) : EReal)
  /-- the output projections' biases -/
  outB : ∀ j d, m (c, Proc.tc.devRef main_arg6) (ix2 j d) = ((A.outB j d : ℝ) : EReal)
  /-- the codebooks -/
  cb : ∀ j k d, m (c, Proc.tc.devRef main_arg7) (ix3 j k d) = ((A.cb j k d : ℝ) : EReal)

namespace Encodes

variable {A : Args} {m : (ℓ : Loc nD τ sig) → Buf (Elt Ideal) ℓ} {c : Dev nD}

/-- The input is as given. -/
theorem input (h : Encodes A m c) (b : Fin 8) (d : Fin 512) (t : Fin 1024) : V m c main_arg0 (ix3 b d t) = ((A.z b d t : ℝ) : EReal) :=
  (congrFun (V_main_arg0 m c) _).trans (h.z b d t)

/-- The input projections. -/
theorem w (h : Encodes A m c) (j : Fin 8) (k : Fin 256) (d : Fin 512) : V m c main_call0_v10 (ix3 j k d) = ((wIn A j k d : ℝ) : EReal) := by
  unfold V V0
  after_reads_at
  simp only [h.inG, h.inV, norm_real]
  rw [← EReal.coe_mul, div_real _ _ (nrm_ne _)]
  rfl

/-- The input projections' biases. -/
theorem b (h : Encodes A m c) (j : Fin 8) (k : Fin 256) : V m c main_v3 (ix2 k j) = ((A.inB j k : ℝ) : EReal) := by
  unfold V V0
  after_reads_at
  exact h.inB j k

/-- The output projections. -/
theorem wo (h : Encodes A m c) (j : Fin 8) (d : Fin 512) (k : Fin 256) : V m c main_call0_v21 (ix3 j d k) = ((wOut A j d k : ℝ) : EReal) := by
  unfold V V0
  after_reads_at
  simp only [h.outG, h.outV, norm_real]
  rw [← EReal.coe_mul, div_real _ _ (nrm_ne _)]
  rfl

/-- The output projections' biases. -/
theorem bo (h : Encodes A m c) (j : Fin 8) (d : Fin 512) : V m c main_v4 (ix2 d j) = ((A.outB j d : ℝ) : EReal) := by
  unfold V V0
  after_reads_at
  exact h.outB j d

/-- The normalised codebooks. -/
theorem e (h : Encodes A m c) (j : Fin 8) (k : Fin 1024) (d : Fin 256) : V m c main_call0_v30 (ix3 j k d) = ((cbn A j k d : ℝ) : EReal) := by
  unfold V V0
  after_reads_at
  simp only [h.cb, norm_real, div_real _ _ (nrm_ne _)]
  rfl

/-- The codebooks' leading parts are the codebooks. -/
theorem hi (h : Encodes A m c) (j : Fin 8) (d : Fin 256) (k : Fin 1024) : V m c main_call0_v31 (ix3 j d k) = ((A.cb j k d : ℝ) : EReal) := by
  unfold V V0
  after_reads_at
  exact h.cb j k d

/-- Nothing is left of the codebooks for the second parts. -/
theorem mid (h : Encodes A m c) (j : Fin 8) (d : Fin 256) (k : Fin 1024) : V m c main_call0_v34 (ix3 j d k) = ((0 : ℝ) : EReal) := by
  unfold V V0
  after_reads_at
  rw [h.cb j k d, ← EReal.coe_sub, sub_self]

/-- Nor for the third. -/
theorem lo (h : Encodes A m c) (j : Fin 8) (d : Fin 256) (k : Fin 1024) : V m c main_call0_v37 (ix3 j d k) = ((0 : ℝ) : EReal) := by
  unfold V V0
  after_reads_at
  rw [h.cb j k d, ← EReal.coe_sub, ← EReal.coe_sub, sub_self]

end Encodes

end Cert.KernelIdeal.Entry

end
-- ==== Proof.Pre.lean ====
/-
  What the precondition says: every argument is real and every codebook row is at least as long as the floor its length is kept above.
-/
module

public import proofs.«01_k».proof.Proof.Entry
public import proofs.«01_k».proof.Defs
public import Idealize.ShloMosaic.Lib.Pointwise

@[expose] public section

set_option maxRecDepth 16384

noncomputable section

namespace Cert.Pre_finite_and_normed

open Idealize.ShloMosaic Idealize.ShloMosaic.TcCoe Cert.Rvq

/-- The precondition's side conditions. -/
theorem facts : Facts where
  bcast_S_S8x512x1024 := by decide
  bcast_S_S8x256x512 := by decide
  bcast_S_S8x256 := by decide
  bcast_S_S8x512x256 := by decide
  bcast_S_S8x512 := by decide
  bcast_S_S8x1024x256 := by decide
  reducesTo_S8x1024x256_S8x1024_d2 := by decide
  h_S_ := by decide
  bcast_S_S8x1024 := by decide

/-- An entry whose absolute value is below infinity is a real number. -/
theorem real_at {S : Shape} (x : FVec Ideal S .f32) (hb : S_.BroadcastsInDim S ![])
    (h : cmpf .olt (Host.absf x) (broadcastInDim S ![] hb (constant S_ .f32 0x7F800000#32)) = fun _ => 1#1) (i : S.Idx) :
    x i = ((x i).toReal : EReal) := by
  have h1 : BitVec.ofBool (decide (max (x i) (-(x i)) < Ideal.ofBits .f32 0x7F800000#32)) = 1#1 := congrFun h i
  rw [ofBits_top] at h1
  refine (EReal.coe_toReal ?_ ?_).symm <;> intro hx <;> rw [hx] at h1 <;> simp at h1

/-- A row whose length is at least the floor. -/
theorem long_at (x : FVec Ideal S8x1024x256 .f32) (hb : S_.BroadcastsInDim S8x1024 ![]) (hr : S8x1024x256.ReducesTo [2] S8x1024) (h0 : 0 < S_.numel)
    (v : Fin 8 → Fin 1024 → Fin 256 → ℝ) (hv : ∀ j k d, x (ix3 j k d) = ((v j k d : ℝ) : EReal))
    (h : cmpf .oge (Host.sqrt (Host.reduceAdd (mulf x x) (constant S_ .f32 0x00000000#32) hr h0))
      (broadcastInDim S8x1024 ![] hb (constant S_ .f32 0x2B8CBCCC#32)) = fun _ => 1#1) (j : Fin 8) (k : Fin 1024) :
    eps ≤ √(∑ d, v j k d * v j k d) := by
  have h1 := congrFun h (ix2 j k)
  have h2 : Host.sqrt (Host.reduceAdd (mulf x x) (constant S_ .f32 0x00000000#32) hr h0) (ix2 j k) = ((√(∑ d, v j k d * v j k d) : ℝ) : EReal) := by
    pointwise
    simp only [hv]
    simp only [← EReal.coe_mul, coe_sum]
    rw [Ideal.sqrt_coe, if_neg (not_lt.2 (Finset.sum_nonneg fun i _ => mul_self_nonneg _))]
  have h3 : BitVec.ofBool (decide (Ideal.ofBits .f32 0x2B8CBCCC#32 ≤ Host.sqrt (Host.reduceAdd (mulf x x) (constant S_ .f32 0x00000000#32) hr h0) (ix2 j k))) = 1#1 := h1
  rw [h2, ofBits_eps] at h3
  by_contra hn
  rw [decide_eq_false fun hle => hn (EReal.coe_le_coe_iff.1 hle)] at h3
  exact absurd h3 (by decide)

/-- The model's arguments on a device, the real numbers the argument arrays hold. -/
def argsOf (m : (ℓ : Loc Cert.KernelIdeal.nD Cert.KernelIdeal.τ Cert.KernelIdeal.sig) → Buf (Elt Ideal) ℓ) (c : Dev Cert.KernelIdeal.nD) : Args where
  z b d t := EReal.toReal (m (c, Proc.tc.devRef Cert.KernelIdeal.main_arg0) (ix3 b d t))
  inV j k d := EReal.toReal (m (c, Proc.tc.devRef Cert.KernelIdeal.main_arg1) (ix3 j k d))
  inG j k := EReal.toReal (m (c, Proc.tc.devRef Cert.KernelIdeal.main_arg2) (ix2 j k))
  inB j k := EReal.toReal (m (c, Proc.tc.devRef Cert.KernelIdeal.main_arg3) (ix2 j k))
  outV j d k := EReal.toReal (m (c, Proc.tc.devRef Cert.KernelIdeal.main_arg4) (ix3 j d k))
  outG j d := EReal.toReal (m (c, Proc.tc.devRef Cert.KernelIdeal.main_arg5) (ix2 j d))
  outB j d := EReal.toReal (m (c, Proc.tc.devRef Cert.KernelIdeal.main_arg6) (ix2 j d))
  cb j k d := EReal.toReal (m (c, Proc.tc.devRef Cert.KernelIdeal.main_arg7) (ix3 j k d))

variable [hPre : Facts] {m : (ℓ : Loc Cert.KernelIdeal.nD Cert.KernelIdeal.τ Cert.KernelIdeal.sig) → Buf (Elt Ideal) ℓ}

/-- Under the precondition the argument arrays hold the model's arguments. -/
theorem encodes (h : Pre_KernelIdeal_finite_and_normed m) (c : Dev Cert.KernelIdeal.nD) : Cert.KernelIdeal.Entry.Encodes (argsOf m c) m c where
  z _ _ _ := real_at _ Facts.bcast_S_S8x512x1024 (h c).1 _
  inV _ _ _ := real_at _ Facts.bcast_S_S8x256x512 (h c).2.1 _
  inG _ _ := real_at _ Facts.bcast_S_S8x256 (h c).2.2.1 _
  inB _ _ := real_at _ Facts.bcast_S_S8x256 (h c).2.2.2.1 _
  outV _ _ _ := real_at _ Facts.bcast_S_S8x512x256 (h c).2.2.2.2.1 _
  outG _ _ := real_at _ Facts.bcast_S_S8x512 (h c).2.2.2.2.2.1 _
  outB _ _ := real_at _ Facts.bcast_S_S8x512 (h c).2.2.2.2.2.2.1 _
  cb _ _ _ := real_at _ Facts.bcast_S_S8x1024x256 (h c).2.2.2.2.2.2.2.1 _

/-- Under the precondition no codebook row is shorter than the floor. -/
theorem long (h : Pre_KernelIdeal_finite_and_normed m) (c : Dev Cert.KernelIdeal.nD) (j : Fin 8) (k : Fin 1024) :
    eps ≤ √(∑ d, (argsOf m c).cb j k d * (argsOf m c).cb j k d) :=
  long_at _ Facts.bcast_S_S8x1024 Facts.reducesTo_S8x1024x256_S8x1024_d2 Facts.h_S_ (argsOf m c).cb (encodes h c).cb (h c).2.2.2.2.2.2.2.2 j k

end Cert.Pre_finite_and_normed
-- ==== Proof.RefRun.lean ====
/-
  What the reference's loop leaves unchanged: the arguments, the weights it slices, and every buffer a trip does not write.
-/
module

public import proofs.«01_k».proof.Proof.Gen.ReferenceIdeal.Run
public import Idealize.ShloMosaic.Adequacy
public import Idealize.ShloMosaic.Init

@[expose] public section

noncomputable section

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The references one trip writes, stretch by stretch. -/
abbrev tripWrites : List (List (Ref sig .tc)) :=
  [while0Ops0_W, while0Ops0_1_W, while0Ops0_2_W, while0Ops0_3_W, while0Ops0_4_W, while0Ops0_5_W, while0Ops0_6_W, while0Ops0_7_W,
    while0Ops0_8_W, while0Ops0_9_W, while0Ops0_10_W, while0Ops0_11_W, while0Ops0_12_W, while0Ops0_13_W, while0Ops0_14_W]

/-- A buffer that no stretch of a trip writes keeps its contents over the trip. -/
theorem trip_keeps (X : Valuation τ sig (Elt F)) (b : Ref sig .tc) (hb : tripWrites.Forall fun W => b ∉ W) :
    afterL bodyI X (Proc.devRef .tc b) = X (Proc.devRef .tc b) := by
  obtain ⟨h0, h1, h2, h3, h4, h5, h6, h7, h8, h9, h10, h11, h12, h13, h14⟩ := hb
  simp only [afterL_cons, afterL_nil]
  rw [after_of_writes_sub _ _ while0Ops0_14_writes h14, after_of_writes_sub _ _ while0Ops0_13_writes h13,
    after_of_writes_sub _ _ while0Ops0_12_writes h12, after_of_writes_sub _ _ while0Ops0_11_writes h11,
    after_of_writes_sub _ _ while0Ops0_10_writes h10, after_of_writes_sub _ _ while0Ops0_9_writes h9,
    after_of_writes_sub _ _ while0Ops0_8_writes h8, after_of_writes_sub _ _ while0Ops0_7_writes h7,
    after_of_writes_sub _ _ while0Ops0_6_writes h6, after_of_writes_sub _ _ while0Ops0_5_writes h5,
    after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0]

/-- The loop's condition writes two buffers of its own and nothing else. -/
theorem cond_keeps (X : Valuation τ sig (Elt F)) (b : Ref sig .tc) (hb : b ∉ ([main_while0c_c_17, main_while0c_v7] : List (Ref sig .tc))) :
    after condOps X (Proc.devRef .tc b) = X (Proc.devRef .tc b) :=
  after_of_writes_sub condOps X (forall_writes_sub_of_map (W := [main_while0c_c_17, main_while0c_v7]) rfl) hb

variable (m : (ℓ : Loc nD τ sig) → Buf (Elt F) ℓ) (ρ : Dev nD → PrngReg)

/-- A buffer that neither a trip nor the condition writes holds its entry contents before every trip. -/
theorem at_keeps (c : Dev nD) (b : Ref sig .tc) (hb : tripWrites.Forall fun W => b ∉ W)
    (hc : b ∉ ([main_while0c_c_17, main_while0c_v7] : List (Ref sig .tc))) :
    ∀ k, atK m k c (Proc.devRef .tc b) = entryContents preI m c (Proc.devRef .tc b)
  | 0 => rfl
  | k + 1 => by
    rw [show atK m (k + 1) c = afterL bodyI (after condOps (atK m k c)) from rfl, trip_keeps _ b hb, cond_keeps _ b hc,
      at_keeps c b hb hc k]

/-- A buffer written nowhere in the program ends as it was launched. -/
theorem final_keeps (c : Dev nD) (b : Ref sig .tc) (hb : tripWrites.Forall fun W => b ∉ W)
    (hc : b ∉ ([main_while0c_c_17, main_while0c_v7] : List (Ref sig .tc))) (hpre : b ∉ hostOps0_W) (hpost : b ∉ hostOps0_1_W) :
    finalContents condOps preI bodyI postI 8 m c (Proc.devRef .tc b) = m ((c.tc : Thread nD τ).loc b) := by
  show afterL postI (after condOps (atK m 8 c)) (Proc.devRef .tc b) = _
  simp only [afterL_cons, afterL_nil]
  rw [after_of_writes_sub _ _ hostOps0_1_writes hpost, cond_keeps _ b hc, at_keeps m c b hb hc 8]
  simp only [entryContents, afterL_cons, afterL_nil]
  rw [after_of_writes_sub _ _ hostOps0_writes hpre]

/-- Every run ends with the eight arguments as they were launched. -/
theorem unchanged : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    have keep (b : Ref sig .tc) (hu : (Proc.devRef .tc b : DevRef τ sig).isScoped = false) (hb : tripWrites.Forall fun W => b ∉ W)
        (hc : b ∉ ([main_while0c_c_17, main_while0c_v7] : List (Ref sig .tc))) (hpre : b ∉ hostOps0_W) (hpost : b ∉ hostOps0_1_W) :
        r.2.mem ((c.tc : Thread nD τ).loc b) = m ((c.tc : Thread nD τ).loc b) :=
      (h c b hu).trans (final_keeps m c b hb hc hpre hpost)
    ⟨keep main_arg0 rfl (by decide +kernel) (by decide +kernel) (by decide +kernel) (by decide +kernel),
      keep main_arg1 rfl (by decide +kernel) (by decide +kernel) (by decide +kernel) (by decide +kernel),
      keep main_arg2 rfl (by decide +kernel) (by decide +kernel) (by decide +kernel) (by decide +kernel),
      keep main_arg3 rfl (by decide +kernel) (by decide +kernel) (by decide +kernel) (by decide +kernel),
      keep main_arg4 rfl (by decide +kernel) (by decide +kernel) (by decide +kernel) (by decide +kernel),
      keep main_arg5 rfl (by decide +kernel) (by decide +kernel) (by decide +kernel) (by decide +kernel),
      keep main_arg6 rfl (by decide +kernel) (by decide +kernel) (by decide +kernel) (by decide +kernel),
      keep main_arg7 rfl (by decide +kernel) (by decide +kernel) (by decide +kernel) (by decide +kernel)⟩) (run_fold m ρ)

end Cert.ReferenceIdeal.Loop

end
-- ==== Proof.Search.lean ====
/-
  The reference's search and take: its arg-max finds the first maximum, and its take reads the codebook's row there.
-/
module

public import proofs.«01_k».proof.Proof.Reals
public import proofs.«01_k».proof.Proof.Model
public import proofs.«01_k».proof.Proof.Gen.ReferenceIdeal.Run
public import Idealize.ShloMosaic.Lib.Pointwise

@[expose] public section

set_option maxRecDepth 16384

noncomputable section

namespace Cert.ReferenceIdeal.Search

open Idealize.ShloMosaic Idealize.ShloMosaic.TcCoe Cert.ReferenceIdeal Cert.ReferenceIdeal.Gen Cert.Rvq

/-- A value with its position's word. -/
def pair (f : Fin 1024 → ℝ) (k : Fin 1024) : Ideal .f32 × BitVec 32 := (((f k : ℝ) : EReal), BitVec.ofNat 32 k.val)

/-- The reducer keeps the greater value, and of equal values the earlier position. -/
theorem reduce_pair (f : Fin 1024 → ℝ) (i k : Fin 1024) :
    reducer_argmax_f32_i32 (F := Ideal) (pair f i) (pair f k) = pair f (if f k < f i ∨ (f i = f k ∧ i < k) then i else k) := by
  have hs : (BitVec.ofNat 32 i.val).slt (BitVec.ofNat 32 k.val) = decide (i < k) := by
    rw [BitVec.slt, toInt_pos, toInt_pos]
    exact decide_eq_decide.2 Int.ofNat_lt
  unfold reducer_argmax_f32_i32 pair
  simp only [Idealize.ShloMosaic.Ideal.cmpf_def, Ideal.cmp, IntOp.cmpi, hs, EReal.coe_lt_coe_iff, EReal.coe_eq_coe_iff]
  by_cases h1 : f k < f i
  · simp [h1, h1.ne', Scalar.select, IntOp.ori, IntOp.andi]
  · by_cases h2 : f i = f k
    · by_cases h3 : i < k <;> simp [h2, h3, Scalar.select, IntOp.ori, IntOp.andi]
    · simp [h1, h2, Scalar.select, IntOp.ori, IntOp.andi]

/-- Against the start value any value is kept. -/
theorem reduce_start (f : Fin 1024 → ℝ) (k : Fin 1024) :
    reducer_argmax_f32_i32 (F := Ideal) (⊥, 0#32) (pair f k) = pair f k := by
  unfold reducer_argmax_f32_i32 pair
  simp [Idealize.ShloMosaic.Ideal.cmpf_def, Ideal.cmp, Scalar.select, IntOp.ori, IntOp.andi]

/-- Over a list of positions the reducer keeps one that no value exceeds and no earlier position equals. -/
theorem fold_pair (f : Fin 1024 → ℝ) : ∀ (L : List (Fin 1024)) (i : Fin 1024),
    ∃ p, (L.map (pair f)).foldl (reducer_argmax_f32_i32 (F := Ideal)) (pair f i) = pair f p
      ∧ ∀ k, (k = i ∨ k ∈ L) → f k < f p ∨ (f k = f p ∧ p ≤ k)
  | [], i => ⟨i, rfl, fun k hk => by rcases hk with rfl | hk; exacts [Or.inr ⟨rfl, le_rfl⟩, absurd hk List.not_mem_nil]⟩
  | a :: L, i => by
    obtain ⟨p, hp, hd⟩ := fold_pair f L (if f a < f i ∨ (f i = f a ∧ i < a) then i else a)
    refine ⟨p, by rw [List.map_cons, List.foldl_cons, reduce_pair, hp], fun k hk => ?_⟩
    have hq := hd _ (Or.inl rfl)
    have hm : ∀ k, k = i ∨ k = a → f k < f p ∨ (f k = f p ∧ p ≤ k) := by
      split at hq
      · rename_i h
        rintro k (rfl | rfl)
        · exact hq
        · rcases h with h | ⟨h, h'⟩ <;> rcases hq with hq | ⟨hq, hq'⟩
          · exact Or.inl (h.trans hq)
          · exact Or.inl (hq ▸ h)
          · exact Or.inl (h ▸ hq)
          · exact Or.inr ⟨h ▸ hq, hq'.trans h'.le⟩
      · rename_i h
        push Not at h
        rintro k (rfl | rfl)
        · rcases lt_or_eq_of_le h.1 with h1 | h1 <;> rcases hq with hq | ⟨hq, hq'⟩
          · exact Or.inl (h1.trans hq)
          · exact Or.inl (hq ▸ h1)
          · exact Or.inl (h1 ▸ hq)
          · exact Or.inr ⟨h1.trans hq, hq'.trans (h.2 h1)⟩
        · exact hq
    rcases hk with rfl | hk
    · exact hm _ (Or.inl rfl)
    · rcases List.mem_cons.1 hk with rfl | hk
      · exact hm _ (Or.inr rfl)
      · exact hd _ (Or.inr hk)

/-- Over a list that names every position the reducer keeps the first maximum. -/
theorem fold_all (f : Fin 1024 → ℝ) (L : List (Fin 1024)) (hL : ∀ k, k ∈ L) :
    ((L.map (pair f)).foldl (reducer_argmax_f32_i32 (F := Ideal)) (⊥, 0#32)) = pair f (firstMax f) := by
  match L, hL with
  | [], hL => exact absurd (hL 0) List.not_mem_nil
  | a :: L, hL =>
    rw [List.map_cons, List.foldl_cons, reduce_start]
    obtain ⟨p, hp, hd⟩ := fold_pair f L a
    have hd' : ∀ k, f k < f p ∨ (f k = f p ∧ p ≤ k) := fun k => hd k (List.mem_cons.1 (hL k))
    rw [hp, firstMax_eq f p (fun k => (hd' k).elim le_of_lt fun h => h.1.le) fun k hk => (hd' k).resolve_right fun h => absurd h.2 (not_le.2 hk)]

/-- The column of a flat position. -/
def column (n : Fin S8192x1024.numel) : Fin 1024 := S8192x1024.rowMajor.symm n 1

/-- The arg-max of a row of reals is the word of its first maximum. -/
theorem argmax_row (x : FVec Ideal S8192x1024 .f32) (r : Fin 8192) (f : Fin 1024 → ℝ) (hx : ∀ k, x (ix2 r k) = ((f k : ℝ) : EReal)) :
    (Host.argReduce (reducer_argmax_f32_i32 (F := Ideal)) x (iotaInDim S8192x1024 32 1) (constant S_ .f32 0xFF800000#32) (constantI S_ 32 0#32)
      reducesTo_S8192x1024_S8192_d1 h_S_ (ix1 r)).2 = BitVec.ofNat 32 (firstMax f).val := by
  rw [Idealize.ShloMosaic.Ideal.argReduce_eq_reduce2, Host.reduce2_eq_foldl_fiber]
  have h0 : ((constant S_ .f32 0xFF800000#32 : FVec Ideal S_ .f32) (Shape.Idx.first h_S_), constantI S_ 32 0#32 (Shape.Idx.first h_S_)) = ((⊥ : EReal), 0#32) :=
    Prod.ext ofBits_bot rfl
  rw [h0]
  have hf : Host.argReduceFiber x (iotaInDim S8192x1024 32 1) reducesTo_S8192x1024_S8192_d1 (ix1 r)
      = (((List.finRange S8192x1024.numel).filter fun n => reducesTo_S8192x1024_S8192_d1.drop (S8192x1024.rowMajor.symm n) = ix1 r).map
          column).map (pair f) := by
    rw [List.map_map]
    refine List.map_congr_left fun n hn => ?_
    have hd : reducesTo_S8192x1024_S8192_d1.drop (S8192x1024.rowMajor.symm n) = ix1 r := of_decide_eq_true (List.mem_filter.1 hn).2
    have h1 : S8192x1024.rowMajor.symm n 0 = r := congrFun hd 0
    refine Prod.ext ?_ rfl
    show x (S8192x1024.rowMajor.symm n) = _
    rw [eq_ix2 (S8192x1024.rowMajor.symm n), h1]
    exact hx _
  rw [hf, fold_all f _ fun k => ?_]
  · rfl
  · refine List.mem_map.2 ⟨S8192x1024.rowMajor (ix2 r k), List.mem_filter.2 ⟨List.mem_finRange _, decide_eq_true ?_⟩, ?_⟩
    · rw [Equiv.symm_apply_apply]
      funext a
      fin_cases a
      rfl
    · unfold column
      rw [Equiv.symm_apply_apply]
      rfl

/-- The dimension numbers of the reference's take. -/
abbrev rows := gather_S1024x256_S8x1024x1_S8x1024x256_2_0_n_n_0_2_1256

/-- The take reads the table's row at a word that names one. -/
theorem take_row (x : FVec Ideal S1024x256 .f32) (idx : IVec S8x1024x1 32) (b : Fin 8) (t : Fin 1024) (c : Fin 256) (k : Fin 1024)
    (hk : idx (ix3 b t 0) = BitVec.ofNat 32 k.val) : Host.gather rows x idx (ix3 b t c) = x (ix2 k c) := by
  have hi : ∀ n : Fin rows.startIndexMap.length, rows.siIdx (ix3 b t c) n = ix3 b t 0 := fun n => by
    funext a
    match a with
    | ⟨0, _⟩ => rfl
    | ⟨1, _⟩ => rfl
    | ⟨2, _⟩ => exact Fin.ext (Nat.lt_one_iff.1 n.isLt)
  have h0 : rows.start (ix3 b t c) idx (0 : Fin 2) = k.val := by
    refine (dif_pos (List.mem_singleton.mpr rfl)).trans ?_
    rw [hi, hk, toInt_pos]
    exact min_eq_left (Nat.le_of_lt_succ k.isLt)
  have h1 : rows.start (ix3 b t c) idx (1 : Fin 2) = 0 := dif_neg (by decide)
  have o1 : rows.offCoord (ix3 b t c) (1 : Fin 2) = c.val := (dif_pos (by decide)).trans rfl
  unfold Host.gather
  refine congrArg x (funext fun a => Fin.ext ?_)
  match a with
  | ⟨0, _⟩ =>
    show rows.start (ix3 b t c) idx (0 : Fin 2) + rows.batchCoord (ix3 b t c) (0 : Fin 2) + rows.offCoord (ix3 b t c) (0 : Fin 2) = k.val
    rw [GatherDims.batchCoord_eq_zero _ _ _ List.not_mem_nil,
      GatherDims.offCoord_eq_zero _ _ _ (fun h => ((GatherDims.mem_sKept _ _).mp h).1 (List.mem_singleton.mpr rfl)), h0]
    rfl
  | ⟨1, _⟩ =>
    show rows.start (ix3 b t c) idx (1 : Fin 2) + rows.batchCoord (ix3 b t c) (1 : Fin 2) + rows.offCoord (ix3 b t c) (1 : Fin 2) = c.val
    rw [GatherDims.batchCoord_eq_zero _ _ _ List.not_mem_nil, h1, o1, Nat.zero_add]

/-- A position's word is not negative. -/
theorem not_neg (k : Fin 1024) : IntOp.cmpi .slt (BitVec.ofNat 32 k.val) 0#32 = 0#1 := by
  have h : (BitVec.ofNat 32 k.val).slt 0#32 = false := by
    rw [BitVec.slt, toInt_pos]
    exact decide_eq_false (not_lt.2 (Int.natCast_nonneg _))
  simp [IntOp.cmpi, h]

/-- A position's word is in the table's range. -/
theorem in_range (k : Fin 1024) : IntOp.andi (IntOp.cmpi .sge (BitVec.ofNat 32 k.val) 0#32) (IntOp.cmpi .sle (BitVec.ofNat 32 k.val) 1023#32) = 1#1 := by
  have h : (0#32).sle (BitVec.ofNat 32 k.val) = true := by
    rw [BitVec.sle, toInt_pos]
    exact decide_eq_true (Int.natCast_nonneg _)
  have h' : (BitVec.ofNat 32 k.val).sle 1023#32 = true := by
    rw [BitVec.sle, toInt_pos]
    exact decide_eq_true (show (k.val : ℤ) ≤ 1023 by omega)
  simp [IntOp.cmpi, h, h', IntOp.andi]

end Cert.ReferenceIdeal.Search
-- ==== Proof.RefRound.lean ====
/-
  The arithmetic of one round of the reference, stretch by stretch, when the buffers it starts from hold reals.
-/
module

public import proofs.«01_k».proof.Proof.RefRun
public import proofs.«01_k».proof.Proof.Search
public import Idealize.ShloMosaic.Lib.StableHlo.ReadAt

@[expose] public section

set_option maxRecDepth 16384

noncomputable section

namespace Cert.ReferenceIdeal.Round

open Idealize.ShloMosaic Idealize.ShloMosaic.TcCoe Cert.ReferenceIdeal Cert.ReferenceIdeal.Gen Cert.ReferenceIdeal.Value Cert.Rvq Idealize.ShloMosaic.StableHlo

/-- The residual columns, by batch and time. -/
abbrev Cols := Fin 8 → Fin 1024 → Fin 512 → ℝ

variable (A : Args) (j : Fin 8) (R : Cols) (X : Valuation τ sig (Elt Ideal))

/-- Round `j`'s weights are sliced, and the residual is `R`. -/
structure Sliced : Prop where
  inV : ∀ k d, X main_while0b_v7 (ix2 k d) = ((A.inV j k d : ℝ) : EReal)
  inG : ∀ k, X main_while0b_v8 (ix1 k) = ((A.inG j k : ℝ) : EReal)
  inB : ∀ k, X main_while0b_v9 (ix1 k) = ((A.inB j k : ℝ) : EReal)
  outV : ∀ d k, X main_while0b_v10 (ix2 d k) = ((A.outV j d k : ℝ) : EReal)
  outG : ∀ d, X main_while0b_v11 (ix1 d) = ((A.outG j d : ℝ) : EReal)
  outB : ∀ d, X main_while0b_v12 (ix1 d) = ((A.outB j d : ℝ) : EReal)
  cb : ∀ k c, X main_while0b_v13 (ix2 k c) = ((A.cb j k c : ℝ) : EReal)
  r : ∀ b d t, X main_v3_8 (ix3 b d t) = ((R b t d : ℝ) : EReal)

variable {A j R X}

/-- The clamped norm, from the sum of the squares. -/
theorem norm_coe {n : ℕ} (v : Fin n → ℝ) :
    max (Ideal.sqrt ((∑ i, v i * v i : ℝ) : EReal)) (Ideal.ofBits .f32 730643660#32) = ((nrm v : ℝ) : EReal) := by
  rw [← norm_real]
  simp only [← EReal.coe_mul, coe_sum]

/-- The latent, with the residual as the first factor. -/
theorem ze_form (A : Args) (j : Fin 8) (r : Fin 512 → ℝ) (k : Fin 256) :
    ∑ x, r x * (A.inG j k * A.inV j k x / nrm (A.inV j k)) + A.inB j k = ze A j r k := by
  rw [ze]
  exact congrArg (· + _) (Finset.sum_congr rfl fun _ _ => mul_comm _ _)

/-- The output projection's weights are normalised. -/
theorem weights (h : Sliced A j R X) (d : Fin 512) (c : Fin 256) :
    after while0Ops0_7 X main_while0b_v35 (ix2 d c) = ((wOut A j d c : ℝ) : EReal) := by
  after_reads_at
  simp only [h.outV, h.outG, norm_real]
  simp only [← EReal.coe_mul, div_real _ _ (nrm_ne _)]
  rfl

/-- The latent is the model's. -/
theorem latent (h : Sliced A j R X) (b : Fin 8) (c : Fin 256) (t : Fin 1024) :
    after while0Ops0_7 X main_while0b_v40 (ix3 b c t) = ((ze A j (R b t) c : ℝ) : EReal) := by
  after_reads_at
  simp only [h.inV, h.inG, h.inB, h.r, norm_real]
  simp only [← EReal.coe_mul, div_real _ _ (nrm_ne _), coe_sum, ← EReal.coe_add, ze_form]

/-- The negated squared distances from the normalised latent to the rows of the normalised codebook. -/
theorem distances (h : Sliced A j R X) (r : Fin 8192) (k : Fin 1024) (b : Fin 8) (t : Fin 1024) (hb : r.val / 1024 = b.val) (ht : r.val % 1024 = t.val) :
    after while0Ops0_7 X main_while0b_v73 (ix2 r k) = ((-((∑ c, encn A j (R b t) c * encn A j (R b t) c)
      - (∑ c, 2 * encn A j (R b t) c * cbn A j k c) + ∑ c, cbn A j k c * cbn A j k c) : ℝ) : EReal) := by
  after_reads_at
  simp only [hb, ht, Fin.eta, h.inV, h.inG, h.inB, h.cb, h.r, norm_real]
  simp only [← EReal.coe_mul, div_real _ _ (nrm_ne _), coe_sum, ← EReal.coe_add, ze_form, norm_coe, ofBits_two, ← EReal.coe_sub, ← EReal.coe_neg]
  rfl

/-- The search finds the model's code. -/
theorem search (r : Fin 8192) (f : Fin 1024 → ℝ) (hf : ∀ k, X main_while0b_v73 (ix2 r k) = ((f k : ℝ) : EReal)) :
    after while0Ops0_8 X main_while0b_v74 (ix1 r) = BitVec.ofNat 32 (firstMax f).val := by
  after_reads_at
  exact Search.argmax_row _ r f hf

/-- The codes by batch and time. -/
theorem codes (b : Fin 8) (t : Fin 1024) : after while0Ops0_9 X main_while0b_v75 (ix2 b t) = X main_while0b_v74 (ix1 ⟨b.val * 1024 + t.val, by omega⟩) := by
  after_reads_at

/-- The take reads the codebook's row at the code. -/
theorem take (b : Fin 8) (t : Fin 1024) (c : Fin 256) (p : Fin 1024) (hp : X main_while0b_v75 (ix2 b t) = BitVec.ofNat 32 p.val) :
    after while0Ops0_10 X main_while0b_v76 (ix3 b t c) = X main_while0b_v13 (ix2 p c) := by
  after_reads_at
  have hs : Scalar.select (IntOp.cmpi .slt (BitVec.ofNat 32 p.val) 0#32) (IntOp.addi (BitVec.ofNat 32 p.val) 1024#32) (BitVec.ofNat 32 p.val) = BitVec.ofNat 32 p.val := by
    rw [Search.not_neg]
    rfl
  rw [hp, hs, Search.in_range]
  rw [Search.take_row _ _ b t c p]
  · rfl
  · pointwise
    rw [hp]
    exact hs

variable (A j R X) in
/-- The round's latent, code row and output projection are computed, and the residual is `R`. -/
structure Taken : Prop where
  w : ∀ d c, X main_while0b_v35 (ix2 d c) = ((wOut A j d c : ℝ) : EReal)
  ze : ∀ b c t, X main_while0b_v40 (ix3 b c t) = ((ze A j (R b t) c : ℝ) : EReal)
  zq : ∀ b t c, X main_while0b_v76 (ix3 b t c) = ((zq A j (R b t) c : ℝ) : EReal)
  outB : ∀ d, X main_while0b_v12 (ix1 d) = ((A.outB j d : ℝ) : EReal)
  r : ∀ b d t, X main_v3_8 (ix3 b d t) = ((R b t d : ℝ) : EReal)

/-- The output projection, with the weights as the second factor and the straight-through sum spelt out. -/
theorem out_form (A : Args) (j : Fin 8) (r : Fin 512 → ℝ) (d : Fin 512) :
    ∑ c, (Cert.Rvq.ze A j r c + (Cert.Rvq.zq A j r c - Cert.Rvq.ze A j r c)) * wOut A j d c + A.outB j d = out A j r d := by
  rw [out]
  exact congrArg (· + _) (Finset.sum_congr rfl fun _ _ => by rw [add_sub_cancel, mul_comm])

/-- The residual after the round. -/
theorem residual (h : Taken A j R X) (b : Fin 8) (d : Fin 512) (t : Fin 1024) :
    after while0Ops0_11 X main_while0b_v101 (ix3 b d t) = ((next A j (R b t) d : ℝ) : EReal) := by
  after_reads_at
  simp only [h.w, h.ze, h.zq, h.outB, h.r]
  simp only [← EReal.coe_mul, coe_sum, ← EReal.coe_add, ← EReal.coe_sub, out_form]
  rfl

/-- The quantised input after the round. -/
theorem quantised (h : Taken A j R X) (b : Fin 8) (d : Fin 512) (t : Fin 1024) (s : ℝ) (hs : X main_v3_9 (ix3 b d t) = ((s : ℝ) : EReal)) :
    after while0Ops0_11 X main_while0b_v102 (ix3 b d t) = ((s + out A j (R b t) d : ℝ) : EReal) := by
  after_reads_at
  simp only [h.w, h.ze, h.zq, h.outB, hs]
  simp only [← EReal.coe_mul, coe_sum, ← EReal.coe_add, ← EReal.coe_sub, out_form]

/-- A mean over batches of means is the total over the number of elements. -/
theorem mean_form (x : Fin 8 → ℝ) : (∑ b, x b / 262144) / 8 = (∑ b, x b) / 2097152 := by
  rw [← Finset.sum_div, div_div]
  norm_num

/-- The first loss after the round. -/
theorem loss_one (h : Taken A j R X) (s : ℝ) (hs : X main_v3_10 ix0 = ((s : ℝ) : EReal)) :
    after while0Ops0_11 X main_while0b_v85 ix0 = ((s + (∑ b, ∑ c, ∑ t, (Cert.Rvq.ze A j (R b t) c - Cert.Rvq.zq A j (R b t) c)
      * (Cert.Rvq.ze A j (R b t) c - Cert.Rvq.zq A j (R b t) c)) / 2097152 : ℝ) : EReal) := by
  after_reads_at
  simp only [h.ze, h.zq, hs, ofBits_count, ofBits_eight]
  simp only [← EReal.coe_mul, coe_sum, ← EReal.coe_add, ← EReal.coe_sub, div_real _ _ (by norm_num : (262144 : ℝ) ≠ 0), div_real _ _ (by norm_num : (8 : ℝ) ≠ 0), mean_form]

/-- The second loss after the round. -/
theorem loss_two (h : Taken A j R X) (s : ℝ) (hs : X main_v3_11 ix0 = ((s : ℝ) : EReal)) :
    after while0Ops0_11 X main_while0b_v93 ix0 = ((s + (∑ b, ∑ c, ∑ t, (Cert.Rvq.ze A j (R b t) c - Cert.Rvq.zq A j (R b t) c)
      * (Cert.Rvq.ze A j (R b t) c - Cert.Rvq.zq A j (R b t) c)) / 2097152 : ℝ) : EReal) := by
  have hc : ∀ x y : ℝ, (x - y) * (x - y) = (y - x) * (y - x) := fun x y => by ring
  after_reads_at
  simp only [h.ze, h.zq, hs, ofBits_count, ofBits_eight]
  simp only [← EReal.coe_mul, coe_sum, ← EReal.coe_add, ← EReal.coe_sub, div_real _ _ (by norm_num : (262144 : ℝ) ≠ 0), div_real _ _ (by norm_num : (8 : ℝ) ≠ 0), mean_form]
  simp only [hc (Cert.Rvq.zq A j _ _)]

end Cert.ReferenceIdeal.Round
-- ==== Proof.RefSlices.lean ====
/-
  One round of the reference moves one entry along its stacked weights: what it slices, and where it writes its codes and latents.
-/
module

public import proofs.«01_k».proof.Proof.RefRun
public import proofs.«01_k».proof.Proof.Reals
public import Idealize.ShloMosaic.Lib.StableHlo.ReadAt
public import Idealize.ShloMosaic.Lib.Pointwise
public import Idealize.ShloMosaic.Lib.WordCmp

@[expose] public section

set_option maxRecDepth 16384

noncomputable section

namespace Cert.ReferenceIdeal.Slices

open Idealize.ShloMosaic Idealize.ShloMosaic.TcCoe Cert.ReferenceIdeal Cert.ReferenceIdeal.Gen Cert.ReferenceIdeal.Value Cert.Rvq Idealize.ShloMosaic.StableHlo

/-- The word of a number below 8 reads back as that number. -/
theorem toInt_small (j : Fin 8) : BitVec.toInt (BitVec.ofNat 32 j.val) = (j.val : ℤ) := by
  fin_cases j <;> rfl

/-- The element at coordinates of the given values, for three axes. -/
theorem at3 {a b c : ℕ} {α : Type} (x : (⟨3, ![a, b, c]⟩ : Shape).Idx → α) {i j k : ℕ} {hi : i < a} {hj : j < b} {hk : k < c}
    {i' : Fin a} {j' : Fin b} {k' : Fin c} (ei : i = i'.val) (ej : j = j'.val) (ek : k = k'.val) :
    x (ix3 ⟨i, hi⟩ ⟨j, hj⟩ ⟨k, hk⟩) = x (ix3 i' j' k') := by
  subst ei ej ek
  rfl

/-- The element at coordinates of the given values, for two axes. -/
theorem at2 {a b : ℕ} {α : Type} (x : (⟨2, ![a, b]⟩ : Shape).Idx → α) {i j : ℕ} {hi : i < a} {hj : j < b}
    {i' : Fin a} {j' : Fin b} (ei : i = i'.val) (ej : j = j'.val) : x (ix2 ⟨i, hi⟩ ⟨j, hj⟩) = x (ix2 i' j') := by
  subst ei ej
  rfl

variable (X : Valuation τ sig (Elt Ideal)) (j : Fin 8) (hj : X main_v3_7 = fun _ => BitVec.ofNat 32 j.val)

include hj

/-- The round's input projection's directions. -/
theorem inV (k : Fin 256) (d : Fin 512) : after while0Ops0 X main_while0b_v7 (ix2 k d) = X main_v3_0 (ix3 j k d) := by
  after_reads_at
  refine at3 _ ?_
    ((congrArg (· + k.val) (Host.clampedStart_of_le _ _ 1 0 rfl (by decide))).trans (Nat.zero_add _))
    ((congrArg (· + d.val) (Host.clampedStart_of_le _ _ 2 0 rfl (by decide))).trans (Nat.zero_add _))
  refine Host.clampedStart_of_le _ _ 0 j.val ?_ (Nat.succ_le_of_lt j.isLt)
  exact (congrArg BitVec.toInt (congrFun hj (Shape.Idx.first h_S_))).trans (toInt_small j)

/-- The round's input projection's lengths. -/
theorem inG (k : Fin 256) : after while0Ops0_1 X main_while0b_v8 (ix1 k) = X main_v3_1 (ix2 j k) := by
  after_reads_at
  refine at2 _ ?_
    ((congrArg (· + k.val) (Host.clampedStart_of_le _ _ 1 0 rfl (by decide))).trans (Nat.zero_add _))
  refine Host.clampedStart_of_le _ _ 0 j.val ?_ (Nat.succ_le_of_lt j.isLt)
  exact (congrArg BitVec.toInt (congrFun hj (Shape.Idx.first h_S_))).trans (toInt_small j)

/-- The round's input projection's bias. -/
theorem inB (k : Fin 256) : after while0Ops0_2 X main_while0b_v9 (ix1 k) = X main_v3_2 (ix2 j k) := by
  after_reads_at
  refine at2 _ ?_
    ((congrArg (· + k.val) (Host.clampedStart_of_le _ _ 1 0 rfl (by decide))).trans (Nat.zero_add _))
  refine Host.clampedStart_of_le _ _ 0 j.val ?_ (Nat.succ_le_of_lt j.isLt)
  exact (congrArg BitVec.toInt (congrFun hj (Shape.Idx.first h_S_))).trans (toInt_small j)

/-- The round's output projection's directions. -/
theorem outV (k : Fin 512) (d : Fin 256) : after while0Ops0_3 X main_while0b_v10 (ix2 k d) = X main_v3_3 (ix3 j k d) := by
  after_reads_at
  refine at3 _ ?_
    ((congrArg (· + k.val) (Host.clampedStart_of_le _ _ 1 0 rfl (by decide))).trans (Nat.zero_add _))
    ((congrArg (· + d.val) (Host.clampedStart_of_le _ _ 2 0 rfl (by decide))).trans (Nat.zero_add _))
  refine Host.clampedStart_of_le _ _ 0 j.val ?_ (Nat.succ_le_of_lt j.isLt)
  exact (congrArg BitVec.toInt (congrFun hj (Shape.Idx.first h_S_))).trans (toInt_small j)

/-- The round's output projection's lengths. -/
theorem outG (k : Fin 512) : after while0Ops0_4 X main_while0b_v11 (ix1 k) = X main_v3_4 (ix2 j k) := by
  after_reads_at
  refine at2 _ ?_
    ((congrArg (· + k.val) (Host.clampedStart_of_le _ _ 1 0 rfl (by decide))).trans (Nat.zero_add _))
  refine Host.clampedStart_of_le _ _ 0 j.val ?_ (Nat.succ_le_of_lt j.isLt)
  exact (congrArg BitVec.toInt (congrFun hj (Shape.Idx.first h_S_))).trans (toInt_small j)

/-- The round's output projection's bias. -/
theorem outB (k : Fin 512) : after while0Ops0_5 X main_while0b_v12 (ix1 k) = X main_v3_5 (ix2 j k) := by
  after_reads_at
  refine at2 _ ?_
    ((congrArg (· + k.val) (Host.clampedStart_of_le _ _ 1 0 rfl (by decide))).trans (Nat.zero_add _))
  refine Host.clampedStart_of_le _ _ 0 j.val ?_ (Nat.succ_le_of_lt j.isLt)
  exact (congrArg BitVec.toInt (congrFun hj (Shape.Idx.first h_S_))).trans (toInt_small j)

/-- The round's codebook. -/
theorem cb (k : Fin 1024) (d : Fin 256) : after while0Ops0_6 X main_while0b_v13 (ix2 k d) = X main_v3_6 (ix3 j k d) := by
  after_reads_at
  refine at3 _ ?_
    ((congrArg (· + k.val) (Host.clampedStart_of_le _ _ 1 0 rfl (by decide))).trans (Nat.zero_add _))
    ((congrArg (· + d.val) (Host.clampedStart_of_le _ _ 2 0 rfl (by decide))).trans (Nat.zero_add _))
  refine Host.clampedStart_of_le _ _ 0 j.val ?_ (Nat.succ_le_of_lt j.isLt)
  exact (congrArg BitVec.toInt (congrFun hj (Shape.Idx.first h_S_))).trans (toInt_small j)

/-- The round's codes are put in at its place. -/
theorem put_codes : after while0Ops0_12 X main_while0b_v103 = updateSlice (s := S8x8x1024) (X main_v3_12)
    (broadcastInDim S1x8x1024 ![1, 2] bcast_S8x1024_S1x8x1024_1_2 (X main_while0b_v75)) ![j.val, 0, 0]
    ⟨rfl, fun a => by fin_cases a; exacts [Nat.succ_le_of_lt j.isLt, le_rfl, le_rfl]⟩ := by
  after_results
  refine WordCmp.dynamicUpdateSlice_eq_update _ _ _ updateFits_S8x8x1024_S1x8x1024 _ _ fun a => ?_
  fin_cases a
  exacts [(congrArg BitVec.toInt (congrFun hj (Shape.Idx.first h_S_))).trans (toInt_small j), rfl, rfl]

/-- The codes after the round. -/
theorem codes (n b : Fin 8) (t : Fin 1024) :
    after while0Ops0_12 X main_while0b_v103 (ix3 n b t) = if n = j then X main_while0b_v75 (ix2 b t) else X main_v3_12 (ix3 n b t) := by
  rw [put_codes X j hj]
  pointwise
  by_cases h : n = j
  · subst h
    rw [dif_pos ⟨le_rfl, Nat.lt_succ_self _⟩, if_pos rfl]
  · rw [dif_neg fun h' => h (Fin.ext (le_antisymm (Nat.le_of_lt_succ h'.2) h'.1)), if_neg h]

/-- The round's latents are put in at its place. -/
theorem put_latents : after while0Ops0_13 X main_while0b_v104 = updateSlice (s := S8x8x256x1024) (X main_v3_13)
    (broadcastInDim S1x8x256x1024 ![1, 2, 3] bcast_S8x256x1024_S1x8x256x1024_1_2_3 (X main_while0b_v40)) ![j.val, 0, 0, 0]
    ⟨rfl, fun a => by fin_cases a; exacts [Nat.succ_le_of_lt j.isLt, le_rfl, le_rfl, le_rfl]⟩ := by
  after_results
  refine WordCmp.dynamicUpdateSlice_eq_update _ _ _ updateFits_S8x8x256x1024_S1x8x256x1024 _ _ fun a => ?_
  fin_cases a
  exacts [(congrArg BitVec.toInt (congrFun hj (Shape.Idx.first h_S_))).trans (toInt_small j), rfl, rfl, rfl]

/-- The latents after the round. -/
theorem latents (n b : Fin 8) (c : Fin 256) (t : Fin 1024) :
    after while0Ops0_13 X main_while0b_v104 (ix4 n b c t) = if n = j then X main_while0b_v40 (ix3 b c t) else X main_v3_13 (ix4 n b c t) := by
  rw [put_latents X j hj]
  pointwise
  by_cases h : n = j
  · subst h
    rw [dif_pos ⟨le_rfl, Nat.lt_succ_self _⟩, if_pos rfl]
  · rw [dif_neg fun h' => h (Fin.ext (le_antisymm (Nat.le_of_lt_succ h'.2) h'.1)), if_neg h]

end Cert.ReferenceIdeal.Slices
-- ==== Proof.RefTrip.lean ====
/-
  One trip of the reference's loop: from the state the model has before a round to the state it has after it.
-/
module

public import proofs.«01_k».proof.Proof.RefRound
public import proofs.«01_k».proof.Proof.RefSlices

@[expose] public section

set_option maxRecDepth 16384

noncomputable section

namespace Cert.ReferenceIdeal.Trip

open Idealize.ShloMosaic Idealize.ShloMosaic.TcCoe Cert.ReferenceIdeal Cert.ReferenceIdeal.Gen Cert.ReferenceIdeal.Value Cert.Rvq Idealize.ShloMosaic.StableHlo

/-! ## The trip's stretches, and what each leaves alone -/

/-- The buffers after stretch 0. -/
def s0 (X : Valuation τ sig (Elt Ideal)) : Valuation τ sig (Elt Ideal) := after while0Ops0 X

/-- What stretch 0 does not write it leaves alone. -/
theorem keep0 (X : Valuation τ sig (Elt Ideal)) (b : Ref sig .tc) (hb : b ∉ while0Ops0_W) : s0 X (no_index (Proc.devRef .tc b)) = X (Proc.devRef .tc b) :=
  after_of_writes_sub _ _ while0Ops0_writes hb

/-- The buffers after stretch 1. -/
def s1 (X : Valuation τ sig (Elt Ideal)) : Valuation τ sig (Elt Ideal) := after while0Ops0_1 X

/-- What stretch 1 does not write it leaves alone. -/
theorem keep1 (X : Valuation τ sig (Elt Ideal)) (b : Ref sig .tc) (hb : b ∉ while0Ops0_1_W) : s1 X (no_index (Proc.devRef .tc b)) = X (Proc.devRef .tc b) :=
  after_of_writes_sub _ _ while0Ops0_1_writes hb

/-- The buffers after stretch 2. -/
def s2 (X : Valuation τ sig (Elt Ideal)) : Valuation τ sig (Elt Ideal) := after while0Ops0_2 X

/-- What stretch 2 does not write it leaves alone. -/
theorem keep2 (X : Valuation τ sig (Elt Ideal)) (b : Ref sig .tc) (hb : b ∉ while0Ops0_2_W) : s2 X (no_index (Proc.devRef .tc b)) = X (Proc.devRef .tc b) :=
  after_of_writes_sub _ _ while0Ops0_2_writes hb

/-- The buffers after stretch 3. -/
def s3 (X : Valuation τ sig (Elt Ideal)) : Valuation τ sig (Elt Ideal) := after while0Ops0_3 X

/-- What stretch 3 does not write it leaves alone. -/
theorem keep3 (X : Valuation τ sig (Elt Ideal)) (b : Ref sig .tc) (hb : b ∉ while0Ops0_3_W) : s3 X (no_index (Proc.devRef .tc b)) = X (Proc.devRef .tc b) :=
  after_of_writes_sub _ _ while0Ops0_3_writes hb

/-- The buffers after stretch 4. -/
def s4 (X : Valuation τ sig (Elt Ideal)) : Valuation τ sig (Elt Ideal) := after while0Ops0_4 X

/-- What stretch 4 does not write it leaves alone. -/
theorem keep4 (X : Valuation τ sig (Elt Ideal)) (b : Ref sig .tc) (hb : b ∉ while0Ops0_4_W) : s4 X (no_index (Proc.devRef .tc b)) = X (Proc.devRef .tc b) :=
  after_of_writes_sub _ _ while0Ops0_4_writes hb

/-- The buffers after stretch 5. -/
def s5 (X : Valuation τ sig (Elt Ideal)) : Valuation τ sig (Elt Ideal) := after while0Ops0_5 X

/-- What stretch 5 does not write it leaves alone. -/
theorem keep5 (X : Valuation τ sig (Elt Ideal)) (b : Ref sig .tc) (hb : b ∉ while0Ops0_5_W) : s5 X (no_index (Proc.devRef .tc b)) = X (Proc.devRef .tc b) :=
  after_of_writes_sub _ _ while0Ops0_5_writes hb

/-- The buffers after stretch 6. -/
def s6 (X : Valuation τ sig (Elt Ideal)) : Valuation τ sig (Elt Ideal) := after while0Ops0_6 X

/-- What stretch 6 does not write it leaves alone. -/
theorem keep6 (X : Valuation τ sig (Elt Ideal)) (b : Ref sig .tc) (hb : b ∉ while0Ops0_6_W) : s6 X (no_index (Proc.devRef .tc b)) = X (Proc.devRef .tc b) :=
  after_of_writes_sub _ _ while0Ops0_6_writes hb

/-- The buffers after stretch 7. -/
def s7 (X : Valuation τ sig (Elt Ideal)) : Valuation τ sig (Elt Ideal) := after while0Ops0_7 X

/-- What stretch 7 does not write it leaves alone. -/
theorem keep7 (X : Valuation τ sig (Elt Ideal)) (b : Ref sig .tc) (hb : b ∉ while0Ops0_7_W) : s7 X (no_index (Proc.devRef .tc b)) = X (Proc.devRef .tc b) :=
  after_of_writes_sub _ _ while0Ops0_7_writes hb

/-- The buffers after stretch 8. -/
def s8 (X : Valuation τ sig (Elt Ideal)) : Valuation τ sig (Elt Ideal) := after while0Ops0_8 X

/-- What stretch 8 does not write it leaves alone. -/
theorem keep8 (X : Valuation τ sig (Elt Ideal)) (b : Ref sig .tc) (hb : b ∉ while0Ops0_8_W) : s8 X (no_index (Proc.devRef .tc b)) = X (Proc.devRef .tc b) :=
  after_of_writes_sub _ _ while0Ops0_8_writes hb

/-- The buffers after stretch 9. -/
def s9 (X : Valuation τ sig (Elt Ideal)) : Valuation τ sig (Elt Ideal) := after while0Ops0_9 X

/-- What stretch 9 does not write it leaves alone. -/
theorem keep9 (X : Valuation τ sig (Elt Ideal)) (b : Ref sig .tc) (hb : b ∉ while0Ops0_9_W) : s9 X (no_index (Proc.devRef .tc b)) = X (Proc.devRef .tc b) :=
  after_of_writes_sub _ _ while0Ops0_9_writes hb

/-- The buffers after stretch 10. -/
def s10 (X : Valuation τ sig (Elt Ideal)) : Valuation τ sig (Elt Ideal) := after while0Ops0_10 X

/-- What stretch 10 does not write it leaves alone. -/
theorem keep10 (X : Valuation τ sig (Elt Ideal)) (b : Ref sig .tc) (hb : b ∉ while0Ops0_10_W) : s10 X (no_index (Proc.devRef .tc b)) = X (Proc.devRef .tc b) :=
  after_of_writes_sub _ _ while0Ops0_10_writes hb

/-- The buffers after stretch 11. -/
def s11 (X : Valuation τ sig (Elt Ideal)) : Valuation τ sig (Elt Ideal) := after while0Ops0_11 X

/-- What stretch 11 does not write it leaves alone. -/
theorem keep11 (X : Valuation τ sig (Elt Ideal)) (b : Ref sig .tc) (hb : b ∉ while0Ops0_11_W) : s11 X (no_index (Proc.devRef .tc b)) = X (Proc.devRef .tc b) :=
  after_of_writes_sub _ _ while0Ops0_11_writes hb

/-- The buffers after stretch 12. -/
def s12 (X : Valuation τ sig (Elt Ideal)) : Valuation τ sig (Elt Ideal) := after while0Ops0_12 X

/-- What stretch 12 does not write it leaves alone. -/
theorem keep12 (X : Valuation τ sig (Elt Ideal)) (b : Ref sig .tc) (hb : b ∉ while0Ops0_12_W) : s12 X (no_index (Proc.devRef .tc b)) = X (Proc.devRef .tc b) :=
  after_of_writes_sub _ _ while0Ops0_12_writes hb

/-- The buffers after stretch 13. -/
def s13 (X : Valuation τ sig (Elt Ideal)) : Valuation τ sig (Elt Ideal) := after while0Ops0_13 X

/-- What stretch 13 does not write it leaves alone. -/
theorem keep13 (X : Valuation τ sig (Elt Ideal)) (b : Ref sig .tc) (hb : b ∉ while0Ops0_13_W) : s13 X (no_index (Proc.devRef .tc b)) = X (Proc.devRef .tc b) :=
  after_of_writes_sub _ _ while0Ops0_13_writes hb

/-- The buffers after stretch 14. -/
def s14 (X : Valuation τ sig (Elt Ideal)) : Valuation τ sig (Elt Ideal) := after while0Ops0_14 X

/-- What stretch 14 does not write it leaves alone. -/
theorem keep14 (X : Valuation τ sig (Elt Ideal)) (b : Ref sig .tc) (hb : b ∉ while0Ops0_14_W) : s14 X (no_index (Proc.devRef .tc b)) = X (Proc.devRef .tc b) :=
  after_of_writes_sub _ _ while0Ops0_14_writes hb

/-- The buffers when the round's weights are sliced. -/
def sliced (X : Valuation τ sig (Elt Ideal)) : Valuation τ sig (Elt Ideal) := s6 (s5 (s4 (s3 (s2 (s1 (s0 X))))))

/-- The buffers when the round's codebook rows are taken. -/
def taken (X : Valuation τ sig (Elt Ideal)) : Valuation τ sig (Elt Ideal) := s10 (s9 (s8 (s7 (sliced X))))

/-- The buffers after the round's arithmetic. -/
def summed (X : Valuation τ sig (Elt Ideal)) : Valuation τ sig (Elt Ideal) := s11 (taken X)

/-- A trip is its stretches in order. -/
theorem trip_eq (X : Valuation τ sig (Elt Ideal)) : afterL bodyI X = s14 (s13 (s12 (summed X))) := rfl

/-- The last stretch carries the residual into the next round. -/
theorem copy8 (X : Valuation τ sig (Elt Ideal)) : s14 X main_v3_8 = X main_while0b_v101 := by
  unfold s14
  after_results
  rfl

/-- The last stretch carries the quantised input into the next round. -/
theorem copy9 (X : Valuation τ sig (Elt Ideal)) : s14 X main_v3_9 = X main_while0b_v102 := by
  unfold s14
  after_results
  rfl

/-- The last stretch carries the first loss into the next round. -/
theorem copy10 (X : Valuation τ sig (Elt Ideal)) : s14 X main_v3_10 = X main_while0b_v85 := by
  unfold s14
  after_results
  rfl

/-- The last stretch carries the second loss into the next round. -/
theorem copy11 (X : Valuation τ sig (Elt Ideal)) : s14 X main_v3_11 = X main_while0b_v93 := by
  unfold s14
  after_results
  rfl

/-- The last stretch carries the codes into the next round. -/
theorem copy12 (X : Valuation τ sig (Elt Ideal)) : s14 X main_v3_12 = X main_while0b_v103 := by
  unfold s14
  after_results
  rfl

/-- The last stretch carries the latents into the next round. -/
theorem copy13 (X : Valuation τ sig (Elt Ideal)) : s14 X main_v3_13 = X main_while0b_v104 := by
  unfold s14
  after_results
  rfl

/-! ## The state before a round -/

/-- The model's state before round `n`. -/
structure Holds (A : Args) (n : ℕ) (X : Valuation τ sig (Elt Ideal)) : Prop where
  inV : ∀ j k d, X main_v3_0 (ix3 j k d) = ((A.inV j k d : ℝ) : EReal)
  inG : ∀ j k, X main_v3_1 (ix2 j k) = ((A.inG j k : ℝ) : EReal)
  inB : ∀ j k, X main_v3_2 (ix2 j k) = ((A.inB j k : ℝ) : EReal)
  outV : ∀ j d k, X main_v3_3 (ix3 j d k) = ((A.outV j d k : ℝ) : EReal)
  outG : ∀ j d, X main_v3_4 (ix2 j d) = ((A.outG j d : ℝ) : EReal)
  outB : ∀ j d, X main_v3_5 (ix2 j d) = ((A.outB j d : ℝ) : EReal)
  cb : ∀ j k c, X main_v3_6 (ix3 j k c) = ((A.cb j k c : ℝ) : EReal)
  r : ∀ b d t, X main_v3_8 (ix3 b d t) = ((res A b t n d : ℝ) : EReal)
  q : ∀ b d t, X main_v3_9 (ix3 b d t) = ((A.z b d t - res A b t n d : ℝ) : EReal)
  one : X main_v3_10 ix0 = ((∑ i ∈ Finset.range n, (∑ b, errs A b i) / 2097152 : ℝ) : EReal)
  two : X main_v3_11 ix0 = ((∑ i ∈ Finset.range n, (∑ b, errs A b i) / 2097152 : ℝ) : EReal)
  codes : ∀ (i b : Fin 8) (t : Fin 1024), i.val < n → X main_v3_12 (ix3 i b t) = BitVec.ofNat 32 (pick A i (res A b t i.val)).val
  latents : ∀ (i b : Fin 8) (c : Fin 256) (t : Fin 1024), i.val < n → X main_v3_13 (ix4 i b c t) = ((ze A i (res A b t i.val) c : ℝ) : EReal)

variable {A : Args} {n : ℕ} {X : Valuation τ sig (Elt Ideal)}

/-- The counter's word names the round. -/
theorem counter (hn : n < 8) (hc : X main_v3_7 = fun _ => BitVec.ofNat 32 n) : X main_v3_7 = fun _ => BitVec.ofNat 32 (rnd n).val := by
  rw [hc, show (rnd n).val = n from Nat.mod_eq_of_lt hn]

/-- The round's weights are sliced. -/
theorem sliced_holds (h : Holds A n X) (hn : n < 8) (hc : X main_v3_7 = fun _ => BitVec.ofNat 32 n) :
    Round.Sliced A (rnd n) (fun b t => res A b t n) (sliced X) := by
  have hj := counter hn hc
  have j1 : (s0 X) main_v3_7 = fun _ => BitVec.ofNat 32 (rnd n).val := by
    simp (discharger := decide +kernel) only [keep0, hj]
  have j2 : (s1 (s0 X)) main_v3_7 = fun _ => BitVec.ofNat 32 (rnd n).val := by
    simp (discharger := decide +kernel) only [keep0, keep1, hj]
  have j3 : (s2 (s1 (s0 X))) main_v3_7 = fun _ => BitVec.ofNat 32 (rnd n).val := by
    simp (discharger := decide +kernel) only [keep0, keep1, keep2, hj]
  have j4 : (s3 (s2 (s1 (s0 X)))) main_v3_7 = fun _ => BitVec.ofNat 32 (rnd n).val := by
    simp (discharger := decide +kernel) only [keep0, keep1, keep2, keep3, hj]
  have j5 : (s4 (s3 (s2 (s1 (s0 X))))) main_v3_7 = fun _ => BitVec.ofNat 32 (rnd n).val := by
    simp (discharger := decide +kernel) only [keep0, keep1, keep2, keep3, keep4, hj]
  have j6 : (s5 (s4 (s3 (s2 (s1 (s0 X)))))) main_v3_7 = fun _ => BitVec.ofNat 32 (rnd n).val := by
    simp (discharger := decide +kernel) only [keep0, keep1, keep2, keep3, keep4, keep5, hj]
  constructor
  · intro k d
    unfold sliced
    simp (discharger := decide +kernel) only [keep1, keep2, keep3, keep4, keep5, keep6]
    refine (Slices.inV _ (rnd n) hj k d).trans ?_
    exact h.inV _ _ _
  · intro k
    unfold sliced
    simp (discharger := decide +kernel) only [keep2, keep3, keep4, keep5, keep6]
    refine (Slices.inG _ (rnd n) j1 k).trans ?_
    simp (discharger := decide +kernel) only [keep0]
    exact h.inG _ _
  · intro k
    unfold sliced
    simp (discharger := decide +kernel) only [keep3, keep4, keep5, keep6]
    refine (Slices.inB _ (rnd n) j2 k).trans ?_
    simp (discharger := decide +kernel) only [keep0, keep1]
    exact h.inB _ _
  · intro k d
    unfold sliced
    simp (discharger := decide +kernel) only [keep4, keep5, keep6]
    refine (Slices.outV _ (rnd n) j3 k d).trans ?_
    simp (discharger := decide +kernel) only [keep0, keep1, keep2]
    exact h.outV _ _ _
  · intro k
    unfold sliced
    simp (discharger := decide +kernel) only [keep5, keep6]
    refine (Slices.outG _ (rnd n) j4 k).trans ?_
    simp (discharger := decide +kernel) only [keep0, keep1, keep2, keep3]
    exact h.outG _ _
  · intro k
    unfold sliced
    simp (discharger := decide +kernel) only [keep6]
    refine (Slices.outB _ (rnd n) j5 k).trans ?_
    simp (discharger := decide +kernel) only [keep0, keep1, keep2, keep3, keep4]
    exact h.outB _ _
  · intro k d
    unfold sliced
    refine (Slices.cb _ (rnd n) j6 k d).trans ?_
    simp (discharger := decide +kernel) only [keep0, keep1, keep2, keep3, keep4, keep5]
    exact h.cb _ _ _
  · intro b d t
    unfold sliced
    simp (discharger := decide +kernel) only [keep0, keep1, keep2, keep3, keep4, keep5, keep6]
    exact h.r b d t

/-- The round's code at each batch and time. -/
theorem code_holds (h : Holds A n X) (hn : n < 8) (hc : X main_v3_7 = fun _ => BitVec.ofNat 32 n)
    (hcb : ∀ j k, eps ≤ Real.sqrt (∑ c, A.cb j k c * A.cb j k c)) (b : Fin 8) (t : Fin 1024) :
    s9 (s8 (s7 (sliced X))) main_while0b_v75 (ix2 b t) = BitVec.ofNat 32 (pick A (rnd n) (res A b t n)).val := by
  have hs := sliced_holds h hn hc
  refine (Round.codes b t).trans ?_
  refine (Round.search _ _ fun k => Round.distances hs _ k b t ?_ ?_).trans ?_
  · show (b.val * 1024 + t.val) / 1024 = b.val
    omega
  · show (b.val * 1024 + t.val) % 1024 = t.val
    omega
  · rw [pick_eq_nearest A (rnd n) (res A b t n) (hcb (rnd n))]

/-- The round's latent, code row and output projection are computed. -/
theorem taken_holds (h : Holds A n X) (hn : n < 8) (hc : X main_v3_7 = fun _ => BitVec.ofNat 32 n)
    (hcb : ∀ j k, eps ≤ Real.sqrt (∑ c, A.cb j k c * A.cb j k c)) :
    Round.Taken A (rnd n) (fun b t => res A b t n) (taken X) := by
  have hs := sliced_holds h hn hc
  constructor
  · intro d c
    unfold taken
    simp (discharger := decide +kernel) only [keep8, keep9, keep10]
    exact Round.weights hs d c
  · intro b c t
    unfold taken
    simp (discharger := decide +kernel) only [keep8, keep9, keep10]
    exact Round.latent hs b c t
  · intro b t c
    refine (Round.take b t c _ (code_holds h hn hc hcb b t)).trans ?_
    simp (discharger := decide +kernel) only [keep7, keep8, keep9]
    exact hs.cb _ _
  · intro d
    unfold taken
    simp (discharger := decide +kernel) only [keep7, keep8, keep9, keep10]
    exact hs.outB d
  · intro b d t
    unfold taken
    simp (discharger := decide +kernel) only [keep7, keep8, keep9, keep10]
    exact hs.r b d t

/-- One trip takes the state before round `n` to the state before round `n + 1`. -/
theorem trip (h : Holds A n X) (hn : n < 8) (hc : X main_v3_7 = fun _ => BitVec.ofNat 32 n)
    (hcb : ∀ j k, eps ≤ Real.sqrt (∑ c, A.cb j k c * A.cb j k c)) : Holds A (n + 1) (afterL bodyI X) := by
  have ht := taken_holds h hn hc hcb
  have hr : (rnd n).val = n := Nat.mod_eq_of_lt hn
  have hlt : ∀ i : Fin 8, i ≠ rnd n → i.val < n + 1 → i.val < n := fun i hne h =>
    lt_of_le_of_ne (Nat.le_of_lt_succ h) fun e => hne (Fin.ext (e.trans hr.symm))
  constructor
  · intro j k d
    rw [Loop.trip_keeps X main_v3_0 (by decide +kernel)]
    exact h.inV j k d
  · intro j k
    rw [Loop.trip_keeps X main_v3_1 (by decide +kernel)]
    exact h.inG j k
  · intro j k
    rw [Loop.trip_keeps X main_v3_2 (by decide +kernel)]
    exact h.inB j k
  · intro j k d
    rw [Loop.trip_keeps X main_v3_3 (by decide +kernel)]
    exact h.outV j k d
  · intro j k
    rw [Loop.trip_keeps X main_v3_4 (by decide +kernel)]
    exact h.outG j k
  · intro j k
    rw [Loop.trip_keeps X main_v3_5 (by decide +kernel)]
    exact h.outB j k
  · intro j k d
    rw [Loop.trip_keeps X main_v3_6 (by decide +kernel)]
    exact h.cb j k d
  · intro b d t
    rw [trip_eq]
    refine (congrFun (copy8 _) _).trans ?_
    simp (discharger := decide +kernel) only [keep12, keep13]
    exact Round.residual ht b d t
  · intro b d t
    rw [trip_eq]
    refine (congrFun (copy9 _) _).trans ?_
    simp (discharger := decide +kernel) only [keep12, keep13]
    refine (Round.quantised ht b d t (A.z b d t - res A b t n d) ?_).trans (congrArg Real.toEReal ?_)
    · unfold taken sliced
      simp (discharger := decide +kernel) only [keep0, keep1, keep2, keep3, keep4, keep5, keep6, keep7, keep8, keep9, keep10]
      exact h.q b d t
    · show _ = A.z b d t - (res A b t n d - out A (rnd n) (res A b t n) d)
      ring
  · rw [trip_eq]
    refine (congrFun (copy10 _) _).trans ?_
    simp (discharger := decide +kernel) only [keep12, keep13]
    refine (Round.loss_one ht (∑ i ∈ Finset.range n, (∑ b, errs A b i) / 2097152) ?_).trans (congrArg Real.toEReal ?_)
    · unfold taken sliced
      simp (discharger := decide +kernel) only [keep0, keep1, keep2, keep3, keep4, keep5, keep6, keep7, keep8, keep9, keep10]
      exact h.one
    · rw [Finset.sum_range_succ]
      rfl
  · rw [trip_eq]
    refine (congrFun (copy11 _) _).trans ?_
    simp (discharger := decide +kernel) only [keep12, keep13]
    refine (Round.loss_two ht (∑ i ∈ Finset.range n, (∑ b, errs A b i) / 2097152) ?_).trans (congrArg Real.toEReal ?_)
    · unfold taken sliced
      simp (discharger := decide +kernel) only [keep0, keep1, keep2, keep3, keep4, keep5, keep6, keep7, keep8, keep9, keep10]
      exact h.two
    · rw [Finset.sum_range_succ]
      rfl
  · intro i b t hlt'
    rw [trip_eq]
    refine (congrFun (copy12 _) _).trans ?_
    simp (discharger := decide +kernel) only [keep13]
    refine (Slices.codes _ (rnd n) ?_ i b t).trans ?_
    · unfold summed taken sliced
      simp (discharger := decide +kernel) only [keep0, keep1, keep2, keep3, keep4, keep5, keep6, keep7, keep8, keep9, keep10, keep11]
      exact counter hn hc
    · by_cases e : i = rnd n
      · rw [if_pos e]
        unfold summed taken
        simp (discharger := decide +kernel) only [keep10, keep11]
        rw [e, hr]
        exact code_holds h hn hc hcb b t
      · rw [if_neg e]
        unfold summed taken sliced
        simp (discharger := decide +kernel) only [keep0, keep1, keep2, keep3, keep4, keep5, keep6, keep7, keep8, keep9, keep10, keep11]
        exact h.codes i b t (hlt i e hlt')
  · intro i b c t hlt'
    rw [trip_eq]
    refine (congrFun (copy13 _) _).trans ?_
    refine (Slices.latents _ (rnd n) ?_ i b c t).trans ?_
    · unfold summed taken sliced
      simp (discharger := decide +kernel) only [keep0, keep1, keep2, keep3, keep4, keep5, keep6, keep7, keep8, keep9, keep10, keep11, keep12]
      exact counter hn hc
    · by_cases e : i = rnd n
      · rw [if_pos e]
        unfold summed
        simp (discharger := decide +kernel) only [keep11, keep12]
        rw [e, hr]
        exact ht.ze b c t
      · rw [if_neg e]
        unfold summed taken sliced
        simp (discharger := decide +kernel) only [keep0, keep1, keep2, keep3, keep4, keep5, keep6, keep7, keep8, keep9, keep10, keep11, keep12]
        exact h.latents i b c t (hlt i e hlt')

end Cert.ReferenceIdeal.Trip
-- ==== Proof.Round.lean ====
/-
  One round of the kernel on one block of columns: its payloads at finite arguments are the model's round.
-/
module

public import proofs.«01_k».proof.Proof.Reals
public import proofs.«01_k».proof.Proof.Gen.KernelIdeal.Skeleton

@[expose] public section

set_option maxRecDepth 16384

noncomputable section

namespace Cert.KernelIdeal.Round

open Idealize.ShloMosaic Cert.KernelIdeal Cert.KernelIdeal.Gen Cert.Rvq

variable (A : Args) (j : Fin 8)

/-- The row numbers the kernel compares with. -/
abbrev rows : IVec S1024x1024 32 := iota .tc S1024x1024 32 [0] iota_S1024x1024_d0_w32

/-- A row number at an index. -/
theorem rows_apply (k t : Fin 1024) : rows (ix2 k t) = BitVec.ofNat 32 k.val := by
  pointwise [rows]

/-- What a round reads of the weights is the model's: the input projection and bias, the normalised codebook, the codebook in three parts, and the output projection and bias. -/
structure Reads (w : Vec Ideal S1x256x512 .bf16) (b : Vec Ideal S256x1 .f32) (e : Vec Ideal S1x1024x256 .bf16)
    (hi mid lo : Vec Ideal S1x256x1024 .bf16) (wo : Vec Ideal S1x512x256 .bf16) (bo : Vec Ideal S512x1 .f32) : Prop where
  /-- the input projection -/
  w : ∀ c d, w (ix3 0 c d) = ((wIn A j c d : ℝ) : EReal)
  /-- its bias -/
  b : ∀ c, b (ix2 c 0) = ((A.inB j c : ℝ) : EReal)
  /-- the normalised codebook -/
  e : ∀ k c, e (ix3 0 k c) = ((cbn A j k c : ℝ) : EReal)
  /-- the codebook's leading part is the codebook -/
  hi : ∀ c k, hi (ix3 0 c k) = ((A.cb j k c : ℝ) : EReal)
  /-- its second part is zero -/
  mid : ∀ c k, mid (ix3 0 c k) = ((0 : ℝ) : EReal)
  /-- its third part is zero -/
  lo : ∀ c k, lo (ix3 0 c k) = ((0 : ℝ) : EReal)
  /-- the output projection -/
  wo : ∀ d c, wo (ix3 0 d c) = ((wOut A j d c : ℝ) : EReal)
  /-- its bias -/
  bo : ∀ d, bo (ix2 d 0) = ((A.outB j d : ℝ) : EReal)

variable {A j} {w : Vec Ideal S1x256x512 .bf16} {b : Vec Ideal S256x1 .f32} {e : Vec Ideal S1x1024x256 .bf16}
  {hi mid lo : Vec Ideal S1x256x1024 .bf16} {wo : Vec Ideal S1x512x256 .bf16} {bo : Vec Ideal S512x1 .f32}
  {r : FVec Ideal S512x1024 .f32} {R : Fin 1024 → Fin 512 → ℝ}

/-- The round's latent. -/
theorem latent (hW : Reads A j w b e hi mid lo wo bo) (hr : ∀ d t, r (ix2 d t) = ((R t d : ℝ) : EReal)) (c : Fin 256) (t : Fin 1024) :
    k0_pay13 r w b (ix2 c t) = ((ze A j (R t) c : ℝ) : EReal) := by
  pointwise [k0_pay13]
  simp only [hW.w, hW.b, hr, ← EReal.coe_mul, coe_sum, ← EReal.coe_add]
  rfl

/-- The round's code. -/
theorem code (hW : Reads A j w b e hi mid lo wo bo) (hr : ∀ d t, r (ix2 d t) = ((R t d : ℝ) : EReal)) (t : Fin 1024) :
    k0_pay15 rows r w b e (ix2 0 t) = BitVec.ofNat 32 (pick A j (R t)).val := by
  pointwise [k0_pay15]
  simp only [latent hW hr, norm_real, div_real _ _ (nrm_ne _), hW.e, ofBits_bot]
  simp only [← EReal.coe_mul, coe_sum]
  rw [pick, ← fold_min_firstMax]
  have hs : ∀ k, ∑ c, cbn A j k c * (ze A j (R t) c / nrm (ze A j (R t))) = score A j (R t) k := fun k => rfl
  simp only [hs, fold_max]

/-- The round's indicator of the code. -/
theorem indicator (hW : Reads A j w b e hi mid lo wo bo) (hr : ∀ d t, r (ix2 d t) = ((R t d : ℝ) : EReal)) (k t : Fin 1024) :
    k0_pay16 rows r w b e (ix2 k t) = (((if k = pick A j (R t) then 1 else 0 : ℝ)) : EReal) := by
  pointwise [k0_pay16]
  rw [code hW hr]
  exact indicator_word _ _

/-- The codebook's row at the code. -/
theorem row (hW : Reads A j w b e hi mid lo wo bo) (hr : ∀ d t, r (ix2 d t) = ((R t d : ℝ) : EReal)) (c : Fin 256) (t : Fin 1024) :
    k0_pay18 (k0_pay16 rows r w b e) hi mid lo (ix2 c t) = ((zq A j (R t) c : ℝ) : EReal) := by
  pointwise [k0_pay18]
  simp only [indicator hW hr, hW.hi, hW.mid, hW.lo]
  rw [sum_indicator (fun k => A.cb j k c), sum_indicator (fun _ => 0), EReal.coe_zero, add_zero, add_zero]
  rfl

/-- The round's term of the loss is added to what came before. -/
theorem term (hW : Reads A j w b e hi mid lo wo bo) (hr : ∀ d t, r (ix2 d t) = ((R t d : ℝ) : EReal)) (l : Ideal .f32) (L : ℝ)
    (hl : l = ((L : ℝ) : EReal)) :
    k0_pay19 l (k0_pay13 r w b) (k0_pay16 rows r w b e) hi mid lo = ((L + ∑ c, ∑ t, (ze A j (R t) c - zq A j (R t) c)
      * (ze A j (R t) c - zq A j (R t) c) : ℝ) : EReal) := by
  pointwise [k0_pay19]
  simp only [latent hW hr, row hW hr, ← EReal.coe_sub, ← EReal.coe_mul, coe_sum, hl, ← EReal.coe_add]

/-- The residual after the round. -/
theorem residual (hW : Reads A j w b e hi mid lo wo bo) (hr : ∀ d t, r (ix2 d t) = ((R t d : ℝ) : EReal)) (d : Fin 512) (t : Fin 1024) :
    k0_pay20 r (k0_pay13 r w b) (k0_pay16 rows r w b e) hi mid lo wo bo (ix2 d t) = ((next A j (R t) d : ℝ) : EReal) := by
  pointwise [k0_pay20]
  simp only [latent hW hr, row hW hr, ← EReal.coe_sub, ← EReal.coe_mul, ← EReal.coe_add, coe_sum, hW.wo, hW.bo, hr,
    add_sub_cancel]
  rfl

end Cert.KernelIdeal.Round

end
-- ==== Proof.Block.lean ====
/-
  One grid point of the kernel: the values its body computes, round by round, are the model's rounds on the point's batch.
-/
module

public import proofs.«01_k».proof.Proof.Round
public import proofs.«01_k».proof.Proof.Gen.KernelIdeal.Frame

@[expose] public section

set_option maxRecDepth 16384

noncomputable section

namespace Cert.KernelIdeal.Block

open Idealize.ShloMosaic Cert.KernelIdeal Cert.KernelIdeal.Gen Cert.KernelIdeal.Round Cert.Rvq

/-- A grid point's body as it is run: where its windows are and what the inputs hold. -/
structure Point where
  /-- the device -/
  c : Dev nD
  /-- the point -/
  i : grid0.Coords
  /-- window 0 -/
  arg2 : Memref sig .tc .vmem S8x256x512 .bf16
  /-- it is whole -/
  harg2 : arg2.IsWhole
  /-- window 1 -/
  arg3 : Memref sig .tc .vmem S256x8 .f32
  /-- it is whole -/
  harg3 : arg3.IsWhole
  /-- window 2 -/
  arg4 : Memref sig .tc .vmem S8x512x256 .bf16
  /-- it is whole -/
  harg4 : arg4.IsWhole
  /-- window 3 -/
  arg5 : Memref sig .tc .vmem S512x8 .f32
  /-- it is whole -/
  harg5 : arg5.IsWhole
  /-- window 4 -/
  arg6 : Memref sig .tc .vmem S8x1024x256 .bf16
  /-- it is whole -/
  harg6 : arg6.IsWhole
  /-- window 5 -/
  arg7 : Memref sig .tc .vmem S8x256x1024 .bf16
  /-- it is whole -/
  harg7 : arg7.IsWhole
  /-- window 6 -/
  arg8 : Memref sig .tc .vmem S8x256x1024 .bf16
  /-- it is whole -/
  harg8 : arg8.IsWhole
  /-- window 7 -/
  arg9 : Memref sig .tc .vmem S8x256x1024 .bf16
  /-- it is whole -/
  harg9 : arg9.IsWhole
  /-- window 8 -/
  arg10 : Memref sig .tc .vmem S1x512x1024 .f32
  /-- it is whole -/
  harg10 : arg10.IsWhole
  /-- window 9 -/
  arg11 : Memref sig .tc .vmem S1x512x1024 .f32
  /-- it is whole -/
  harg11 : arg11.IsWhole
  /-- window 10 -/
  arg12 : Memref sig .tc .vmem S1x8x1024 .i32
  /-- it is whole -/
  harg12 : arg12.IsWhole
  /-- window 11 -/
  arg13 : Memref sig .tc .vmem S1x2048x1024 .f32
  /-- it is whole -/
  harg13 : arg13.IsWhole
  /-- window 12 -/
  arg14 : Memref sig .tc .vmem S1x1x1 .f32
  /-- it is whole -/
  harg14 : arg14.IsWhole
  /-- the first point of a batch -/
  hc0 : cond0_0 i
  /-- no later one -/
  hc1 : ¬cond0_1 i
  /-- what window 0 holds -/
  x0 : Vec Ideal S8x256x512 .bf16
  /-- what window 1 holds -/
  x1 : Vec Ideal S256x8 .f32
  /-- what window 2 holds -/
  x2 : Vec Ideal S8x512x256 .bf16
  /-- what window 3 holds -/
  x3 : Vec Ideal S512x8 .f32
  /-- what window 4 holds -/
  x4 : Vec Ideal S8x1024x256 .bf16
  /-- what window 5 holds -/
  x5 : Vec Ideal S8x256x1024 .bf16
  /-- what window 6 holds -/
  x6 : Vec Ideal S8x256x1024 .bf16
  /-- what window 7 holds -/
  x7 : Vec Ideal S8x256x1024 .bf16
  /-- what window 8 holds -/
  x8 : Vec Ideal S1x512x1024 .f32

namespace Point

variable (P : Point)

/-- Round `j`'s input projection, as read. -/
abbrev w (j : ℕ) (h : ∀ a, (![j, 0, 0] : Fin 3 → Nat) a + S1x256x512.size a ≤ S8x256x512.size a) : Vec Ideal S1x256x512 .bf16 :=
  View.readAt (Elt Ideal) P.arg2.view (Rect.unit (s := S8x256x512) ![j, 0, 0] S1x256x512.size h).toLoadRect (P.harg2.unread P.x0)

/-- Its bias. -/
abbrev b (j : ℕ) (h : ∀ a, (![0, j] : Fin 2 → Nat) a + S256x1.size a ≤ S256x8.size a) : Vec Ideal S256x1 .f32 :=
  View.readAt (Elt Ideal) P.arg3.view (Rect.unit (s := S256x8) ![0, j] S256x1.size h).toLoadRect (P.harg3.unread P.x1)

/-- The normalised codebook. -/
abbrev e (j : ℕ) (h : ∀ a, (![j, 0, 0] : Fin 3 → Nat) a + S1x1024x256.size a ≤ S8x1024x256.size a) : Vec Ideal S1x1024x256 .bf16 :=
  View.readAt (Elt Ideal) P.arg6.view (Rect.unit (s := S8x1024x256) ![j, 0, 0] S1x1024x256.size h).toLoadRect (P.harg6.unread P.x4)

/-- The codebook's leading part. -/
abbrev hi (j : ℕ) (h : ∀ a, (![j, 0, 0] : Fin 3 → Nat) a + S1x256x1024.size a ≤ S8x256x1024.size a) : Vec Ideal S1x256x1024 .bf16 :=
  View.readAt (Elt Ideal) P.arg7.view (Rect.unit (s := S8x256x1024) ![j, 0, 0] S1x256x1024.size h).toLoadRect (P.harg7.unread P.x5)

/-- Its second part. -/
abbrev mid (j : ℕ) (h : ∀ a, (![j, 0, 0] : Fin 3 → Nat) a + S1x256x1024.size a ≤ S8x256x1024.size a) : Vec Ideal S1x256x1024 .bf16 :=
  View.readAt (Elt Ideal) P.arg8.view (Rect.unit (s := S8x256x1024) ![j, 0, 0] S1x256x1024.size h).toLoadRect (P.harg8.unread P.x6)

/-- Its third part. -/
abbrev lo (j : ℕ) (h : ∀ a, (![j, 0, 0] : Fin 3 → Nat) a + S1x256x1024.size a ≤ S8x256x1024.size a) : Vec Ideal S1x256x1024 .bf16 :=
  View.readAt (Elt Ideal) P.arg9.view (Rect.unit (s := S8x256x1024) ![j, 0, 0] S1x256x1024.size h).toLoadRect (P.harg9.unread P.x7)

/-- The output projection. -/
abbrev wo (j : ℕ) (h : ∀ a, (![j, 0, 0] : Fin 3 → Nat) a + S1x512x256.size a ≤ S8x512x256.size a) : Vec Ideal S1x512x256 .bf16 :=
  View.readAt (Elt Ideal) P.arg4.view (Rect.unit (s := S8x512x256) ![j, 0, 0] S1x512x256.size h).toLoadRect (P.harg4.unread P.x2)

/-- Its bias. -/
abbrev bo (j : ℕ) (h : ∀ a, (![0, j] : Fin 2 → Nat) a + S512x1.size a ≤ S512x8.size a) : Vec Ideal S512x1 .f32 :=
  View.readAt (Elt Ideal) P.arg5.view (Rect.unit (s := S512x8) ![0, j] S512x1.size h).toLoadRect (P.harg5.unread P.x3)

/-- The input block, as read. -/
abbrev z : Vec Ideal S1x512x1024 .f32 :=
  View.readAt (Elt Ideal) P.arg10.view (Rect.unit (s := S1x512x1024) ![0, 0, 0] S1x512x1024.size inb_S1x512x1024_S1x512x1024_0_0_0).toLoadRect (P.harg10.unread P.x8)

/-- The residual before round 0, as the run names it. -/
abbrev res0 : FVec Ideal S512x1024 .f32 := kernelRun0_A.sl.r (F := Ideal) P.c P.arg10 P.harg10 P.x8

/-- The residual before round 1, as the run names it. -/
abbrev res1 : FVec Ideal S512x1024 .f32 := kernelRun0_A.sl.r_5 (F := Ideal) P.c P.arg2 P.harg2 P.arg3 P.harg3 P.arg4 P.harg4 P.arg5 P.harg5 P.arg6 P.harg6 P.arg7 P.harg7 P.arg8 P.harg8 P.arg9 P.harg9 P.arg10 P.harg10 P.x0 P.x1 P.x2 P.x3 P.x4 P.x5 P.x6 P.x7 P.x8

/-- The residual before round 2, as the run names it. -/
abbrev res2 : FVec Ideal S512x1024 .f32 := kernelRun0_A.sl.r_10 (F := Ideal) P.c P.arg2 P.harg2 P.arg3 P.harg3 P.arg4 P.harg4 P.arg5 P.harg5 P.arg6 P.harg6 P.arg7 P.harg7 P.arg8 P.harg8 P.arg9 P.harg9 P.arg10 P.harg10 P.x0 P.x1 P.x2 P.x3 P.x4 P.x5 P.x6 P.x7 P.x8

/-- The residual before round 3, as the run names it. -/
abbrev res3 : FVec Ideal S512x1024 .f32 := kernelRun0_A.sl.r_17 (F := Ideal) P.c P.arg2 P.harg2 P.arg3 P.harg3 P.arg4 P.harg4 P.arg5 P.harg5 P.arg6 P.harg6 P.arg7 P.harg7 P.arg8 P.harg8 P.arg9 P.harg9 P.arg10 P.harg10 P.x0 P.x1 P.x2 P.x3 P.x4 P.x5 P.x6 P.x7 P.x8

/-- The residual before round 4, as the run names it. -/
abbrev res4 : FVec Ideal S512x1024 .f32 := kernelRun0_A.sl.r_23 (F := Ideal) P.c P.arg2 P.harg2 P.arg3 P.harg3 P.arg4 P.harg4 P.arg5 P.harg5 P.arg6 P.harg6 P.arg7 P.harg7 P.arg8 P.harg8 P.arg9 P.harg9 P.arg10 P.harg10 P.x0 P.x1 P.x2 P.x3 P.x4 P.x5 P.x6 P.x7 P.x8

/-- The residual before round 5, as the run names it. -/
abbrev res5 : FVec Ideal S512x1024 .f32 := kernelRun0_A.sl.r_29 (F := Ideal) P.c P.arg2 P.harg2 P.arg3 P.harg3 P.arg4 P.harg4 P.arg5 P.harg5 P.arg6 P.harg6 P.arg7 P.harg7 P.arg8 P.harg8 P.arg9 P.harg9 P.arg10 P.harg10 P.x0 P.x1 P.x2 P.x3 P.x4 P.x5 P.x6 P.x7 P.x8

/-- The residual before round 6, as the run names it. -/
abbrev res6 : FVec Ideal S512x1024 .f32 := kernelRun0_A.sl.r_36 (F := Ideal) P.c P.arg2 P.harg2 P.arg3 P.harg3 P.arg4 P.harg4 P.arg5 P.harg5 P.arg6 P.harg6 P.arg7 P.harg7 P.arg8 P.harg8 P.arg9 P.harg9 P.arg10 P.harg10 P.x0 P.x1 P.x2 P.x3 P.x4 P.x5 P.x6 P.x7 P.x8

/-- The residual before round 7, as the run names it. -/
abbrev res7 : FVec Ideal S512x1024 .f32 := kernelRun0_A.sl.r_41 (F := Ideal) P.c P.arg2 P.harg2 P.arg3 P.harg3 P.arg4 P.harg4 P.arg5 P.harg5 P.arg6 P.harg6 P.arg7 P.harg7 P.arg8 P.harg8 P.arg9 P.harg9 P.arg10 P.harg10 P.x0 P.x1 P.x2 P.x3 P.x4 P.x5 P.x6 P.x7 P.x8

/-- The input less the last residual. -/
abbrev total : FVec Ideal S512x1024 .f32 := kernelRun0_A.sl.r_46 (F := Ideal) P.c P.arg2 P.harg2 P.arg3 P.harg3 P.arg4 P.harg4 P.arg5 P.harg5 P.arg6 P.harg6 P.arg7 P.harg7 P.arg8 P.harg8 P.arg9 P.harg9 P.arg10 P.harg10 P.x0 P.x1 P.x2 P.x3 P.x4 P.x5 P.x6 P.x7 P.x8

/-- The loss after round 0. -/
abbrev loss0 : Ideal .f32 := kernelRun0_A.sl.r_4 (F := Ideal) P.c P.arg2 P.harg2 P.arg3 P.harg3 P.arg6 P.harg6 P.arg7 P.harg7 P.arg8 P.harg8 P.arg9 P.harg9 P.arg10 P.harg10 P.x0 P.x1 P.x4 P.x5 P.x6 P.x7 P.x8

/-- The loss after round 1. -/
abbrev loss1 : Ideal .f32 := kernelRun0_A.sl.r_9 (F := Ideal) P.c P.arg2 P.harg2 P.arg3 P.harg3 P.arg4 P.harg4 P.arg5 P.harg5 P.arg6 P.harg6 P.arg7 P.harg7 P.arg8 P.harg8 P.arg9 P.harg9 P.arg10 P.harg10 P.x0 P.x1 P.x2 P.x3 P.x4 P.x5 P.x6 P.x7 P.x8

/-- The loss after round 2. -/
abbrev loss2 : Ideal .f32 := kernelRun0_A.sl.r_16 (F := Ideal) P.c P.arg2 P.harg2 P.arg3 P.harg3 P.arg4 P.harg4 P.arg5 P.harg5 P.arg6 P.harg6 P.arg7 P.harg7 P.arg8 P.harg8 P.arg9 P.harg9 P.arg10 P.harg10 P.x0 P.x1 P.x2 P.x3 P.x4 P.x5 P.x6 P.x7 P.x8

/-- The loss after round 3. -/
abbrev loss3 : Ideal .f32 := kernelRun0_A.sl.r_22 (F := Ideal) P.c P.arg2 P.harg2 P.arg3 P.harg3 P.arg4 P.harg4 P.arg5 P.harg5 P.arg6 P.harg6 P.arg7 P.harg7 P.arg8 P.harg8 P.arg9 P.harg9 P.arg10 P.harg10 P.x0 P.x1 P.x2 P.x3 P.x4 P.x5 P.x6 P.x7 P.x8

/-- The loss after round 4. -/
abbrev loss4 : Ideal .f32 := kernelRun0_A.sl.r_28 (F := Ideal) P.c P.arg2 P.harg2 P.arg3 P.harg3 P.arg4 P.harg4 P.arg5 P.harg5 P.arg6 P.harg6 P.arg7 P.harg7 P.arg8 P.harg8 P.arg9 P.harg9 P.arg10 P.harg10 P.x0 P.x1 P.x2 P.x3 P.x4 P.x5 P.x6 P.x7 P.x8

/-- The loss after round 5. -/
abbrev loss5 : Ideal .f32 := kernelRun0_A.sl.r_33 (F := Ideal) P.c P.arg2 P.harg2 P.arg3 P.harg3 P.arg4 P.harg4 P.arg5 P.harg5 P.arg6 P.harg6 P.arg7 P.harg7 P.arg8 P.harg8 P.arg9 P.harg9 P.arg10 P.harg10 P.x0 P.x1 P.x2 P.x3 P.x4 P.x5 P.x6 P.x7 P.x8

/-- The loss after round 6. -/
abbrev loss6 : Ideal .f32 := kernelRun0_A.sl.r_40 (F := Ideal) P.c P.arg2 P.harg2 P.arg3 P.harg3 P.arg4 P.harg4 P.arg5 P.harg5 P.arg6 P.harg6 P.arg7 P.harg7 P.arg8 P.harg8 P.arg9 P.harg9 P.arg10 P.harg10 P.x0 P.x1 P.x2 P.x3 P.x4 P.x5 P.x6 P.x7 P.x8

/-- The loss after round 7. -/
abbrev loss7 : Ideal .f32 := kernelRun0_A.sl.r_45 (F := Ideal) P.c P.arg2 P.harg2 P.arg3 P.harg3 P.arg4 P.harg4 P.arg5 P.harg5 P.arg6 P.harg6 P.arg7 P.harg7 P.arg8 P.harg8 P.arg9 P.harg9 P.arg10 P.harg10 P.x0 P.x1 P.x2 P.x3 P.x4 P.x5 P.x6 P.x7 P.x8

/-- Round 0 takes one residual to the next. -/
theorem res1_eq : P.res1 = k0_pay20 P.res0 (k0_pay13 P.res0 (P.w 0 inb_S8x256x512_S1x256x512_0_0_0) (P.b 0 inb_S256x8_S256x1_0_0)) (k0_pay16 rows P.res0 (P.w 0 inb_S8x256x512_S1x256x512_0_0_0) (P.b 0 inb_S256x8_S256x1_0_0) (P.e 0 inb_S8x1024x256_S1x1024x256_0_0_0)) (P.hi 0 inb_S8x256x1024_S1x256x1024_0_0_0) (P.mid 0 inb_S8x256x1024_S1x256x1024_0_0_0) (P.lo 0 inb_S8x256x1024_S1x256x1024_0_0_0) (P.wo 0 inb_S8x512x256_S1x512x256_0_0_0) (P.bo 0 inb_S512x8_S512x1_0_0) := rfl

/-- Round 0 adds its term to the loss. -/
theorem loss0_eq : P.loss0 = k0_pay19 (Scalar.ofBits .f32 0x00000000#32) (k0_pay13 P.res0 (P.w 0 inb_S8x256x512_S1x256x512_0_0_0) (P.b 0 inb_S256x8_S256x1_0_0)) (k0_pay16 rows P.res0 (P.w 0 inb_S8x256x512_S1x256x512_0_0_0) (P.b 0 inb_S256x8_S256x1_0_0) (P.e 0 inb_S8x1024x256_S1x1024x256_0_0_0)) (P.hi 0 inb_S8x256x1024_S1x256x1024_0_0_0) (P.mid 0 inb_S8x256x1024_S1x256x1024_0_0_0) (P.lo 0 inb_S8x256x1024_S1x256x1024_0_0_0) := rfl

/-- Round 1 takes one residual to the next. -/
theorem res2_eq : P.res2 = k0_pay20 P.res1 (k0_pay13 P.res1 (P.w 1 inb_S8x256x512_S1x256x512_1_0_0) (P.b 1 inb_S256x8_S256x1_0_1)) (k0_pay16 rows P.res1 (P.w 1 inb_S8x256x512_S1x256x512_1_0_0) (P.b 1 inb_S256x8_S256x1_0_1) (P.e 1 inb_S8x1024x256_S1x1024x256_1_0_0)) (P.hi 1 inb_S8x256x1024_S1x256x1024_1_0_0) (P.mid 1 inb_S8x256x1024_S1x256x1024_1_0_0) (P.lo 1 inb_S8x256x1024_S1x256x1024_1_0_0) (P.wo 1 inb_S8x512x256_S1x512x256_1_0_0) (P.bo 1 inb_S512x8_S512x1_0_1) := rfl

/-- Round 1 adds its term to the loss. -/
theorem loss1_eq : P.loss1 = k0_pay19 P.loss0 (k0_pay13 P.res1 (P.w 1 inb_S8x256x512_S1x256x512_1_0_0) (P.b 1 inb_S256x8_S256x1_0_1)) (k0_pay16 rows P.res1 (P.w 1 inb_S8x256x512_S1x256x512_1_0_0) (P.b 1 inb_S256x8_S256x1_0_1) (P.e 1 inb_S8x1024x256_S1x1024x256_1_0_0)) (P.hi 1 inb_S8x256x1024_S1x256x1024_1_0_0) (P.mid 1 inb_S8x256x1024_S1x256x1024_1_0_0) (P.lo 1 inb_S8x256x1024_S1x256x1024_1_0_0) := rfl

/-- Round 2 takes one residual to the next. -/
theorem res3_eq : P.res3 = k0_pay20 P.res2 (k0_pay13 P.res2 (P.w 2 inb_S8x256x512_S1x256x512_2_0_0) (P.b 2 inb_S256x8_S256x1_0_2)) (k0_pay16 rows P.res2 (P.w 2 inb_S8x256x512_S1x256x512_2_0_0) (P.b 2 inb_S256x8_S256x1_0_2) (P.e 2 inb_S8x1024x256_S1x1024x256_2_0_0)) (P.hi 2 inb_S8x256x1024_S1x256x1024_2_0_0) (P.mid 2 inb_S8x256x1024_S1x256x1024_2_0_0) (P.lo 2 inb_S8x256x1024_S1x256x1024_2_0_0) (P.wo 2 inb_S8x512x256_S1x512x256_2_0_0) (P.bo 2 inb_S512x8_S512x1_0_2) := rfl

/-- Round 2 adds its term to the loss. -/
theorem loss2_eq : P.loss2 = k0_pay19 P.loss1 (k0_pay13 P.res2 (P.w 2 inb_S8x256x512_S1x256x512_2_0_0) (P.b 2 inb_S256x8_S256x1_0_2)) (k0_pay16 rows P.res2 (P.w 2 inb_S8x256x512_S1x256x512_2_0_0) (P.b 2 inb_S256x8_S256x1_0_2) (P.e 2 inb_S8x1024x256_S1x1024x256_2_0_0)) (P.hi 2 inb_S8x256x1024_S1x256x1024_2_0_0) (P.mid 2 inb_S8x256x1024_S1x256x1024_2_0_0) (P.lo 2 inb_S8x256x1024_S1x256x1024_2_0_0) := rfl

/-- Round 3 takes one residual to the next. -/
theorem res4_eq : P.res4 = k0_pay20 P.res3 (k0_pay13 P.res3 (P.w 3 inb_S8x256x512_S1x256x512_3_0_0) (P.b 3 inb_S256x8_S256x1_0_3)) (k0_pay16 rows P.res3 (P.w 3 inb_S8x256x512_S1x256x512_3_0_0) (P.b 3 inb_S256x8_S256x1_0_3) (P.e 3 inb_S8x1024x256_S1x1024x256_3_0_0)) (P.hi 3 inb_S8x256x1024_S1x256x1024_3_0_0) (P.mid 3 inb_S8x256x1024_S1x256x1024_3_0_0) (P.lo 3 inb_S8x256x1024_S1x256x1024_3_0_0) (P.wo 3 inb_S8x512x256_S1x512x256_3_0_0) (P.bo 3 inb_S512x8_S512x1_0_3) := rfl

/-- Round 3 adds its term to the loss. -/
theorem loss3_eq : P.loss3 = k0_pay19 P.loss2 (k0_pay13 P.res3 (P.w 3 inb_S8x256x512_S1x256x512_3_0_0) (P.b 3 inb_S256x8_S256x1_0_3)) (k0_pay16 rows P.res3 (P.w 3 inb_S8x256x512_S1x256x512_3_0_0) (P.b 3 inb_S256x8_S256x1_0_3) (P.e 3 inb_S8x1024x256_S1x1024x256_3_0_0)) (P.hi 3 inb_S8x256x1024_S1x256x1024_3_0_0) (P.mid 3 inb_S8x256x1024_S1x256x1024_3_0_0) (P.lo 3 inb_S8x256x1024_S1x256x1024_3_0_0) := rfl

/-- Round 4 takes one residual to the next. -/
theorem res5_eq : P.res5 = k0_pay20 P.res4 (k0_pay13 P.res4 (P.w 4 inb_S8x256x512_S1x256x512_4_0_0) (P.b 4 inb_S256x8_S256x1_0_4)) (k0_pay16 rows P.res4 (P.w 4 inb_S8x256x512_S1x256x512_4_0_0) (P.b 4 inb_S256x8_S256x1_0_4) (P.e 4 inb_S8x1024x256_S1x1024x256_4_0_0)) (P.hi 4 inb_S8x256x1024_S1x256x1024_4_0_0) (P.mid 4 inb_S8x256x1024_S1x256x1024_4_0_0) (P.lo 4 inb_S8x256x1024_S1x256x1024_4_0_0) (P.wo 4 inb_S8x512x256_S1x512x256_4_0_0) (P.bo 4 inb_S512x8_S512x1_0_4) := rfl

/-- Round 4 adds its term to the loss. -/
theorem loss4_eq : P.loss4 = k0_pay19 P.loss3 (k0_pay13 P.res4 (P.w 4 inb_S8x256x512_S1x256x512_4_0_0) (P.b 4 inb_S256x8_S256x1_0_4)) (k0_pay16 rows P.res4 (P.w 4 inb_S8x256x512_S1x256x512_4_0_0) (P.b 4 inb_S256x8_S256x1_0_4) (P.e 4 inb_S8x1024x256_S1x1024x256_4_0_0)) (P.hi 4 inb_S8x256x1024_S1x256x1024_4_0_0) (P.mid 4 inb_S8x256x1024_S1x256x1024_4_0_0) (P.lo 4 inb_S8x256x1024_S1x256x1024_4_0_0) := rfl

/-- Round 5 takes one residual to the next. -/
theorem res6_eq : P.res6 = k0_pay20 P.res5 (k0_pay13 P.res5 (P.w 5 inb_S8x256x512_S1x256x512_5_0_0) (P.b 5 inb_S256x8_S256x1_0_5)) (k0_pay16 rows P.res5 (P.w 5 inb_S8x256x512_S1x256x512_5_0_0) (P.b 5 inb_S256x8_S256x1_0_5) (P.e 5 inb_S8x1024x256_S1x1024x256_5_0_0)) (P.hi 5 inb_S8x256x1024_S1x256x1024_5_0_0) (P.mid 5 inb_S8x256x1024_S1x256x1024_5_0_0) (P.lo 5 inb_S8x256x1024_S1x256x1024_5_0_0) (P.wo 5 inb_S8x512x256_S1x512x256_5_0_0) (P.bo 5 inb_S512x8_S512x1_0_5) := rfl

/-- Round 5 adds its term to the loss. -/
theorem loss5_eq : P.loss5 = k0_pay19 P.loss4 (k0_pay13 P.res5 (P.w 5 inb_S8x256x512_S1x256x512_5_0_0) (P.b 5 inb_S256x8_S256x1_0_5)) (k0_pay16 rows P.res5 (P.w 5 inb_S8x256x512_S1x256x512_5_0_0) (P.b 5 inb_S256x8_S256x1_0_5) (P.e 5 inb_S8x1024x256_S1x1024x256_5_0_0)) (P.hi 5 inb_S8x256x1024_S1x256x1024_5_0_0) (P.mid 5 inb_S8x256x1024_S1x256x1024_5_0_0) (P.lo 5 inb_S8x256x1024_S1x256x1024_5_0_0) := rfl

/-- Round 6 takes one residual to the next. -/
theorem res7_eq : P.res7 = k0_pay20 P.res6 (k0_pay13 P.res6 (P.w 6 inb_S8x256x512_S1x256x512_6_0_0) (P.b 6 inb_S256x8_S256x1_0_6)) (k0_pay16 rows P.res6 (P.w 6 inb_S8x256x512_S1x256x512_6_0_0) (P.b 6 inb_S256x8_S256x1_0_6) (P.e 6 inb_S8x1024x256_S1x1024x256_6_0_0)) (P.hi 6 inb_S8x256x1024_S1x256x1024_6_0_0) (P.mid 6 inb_S8x256x1024_S1x256x1024_6_0_0) (P.lo 6 inb_S8x256x1024_S1x256x1024_6_0_0) (P.wo 6 inb_S8x512x256_S1x512x256_6_0_0) (P.bo 6 inb_S512x8_S512x1_0_6) := rfl

/-- Round 6 adds its term to the loss. -/
theorem loss6_eq : P.loss6 = k0_pay19 P.loss5 (k0_pay13 P.res6 (P.w 6 inb_S8x256x512_S1x256x512_6_0_0) (P.b 6 inb_S256x8_S256x1_0_6)) (k0_pay16 rows P.res6 (P.w 6 inb_S8x256x512_S1x256x512_6_0_0) (P.b 6 inb_S256x8_S256x1_0_6) (P.e 6 inb_S8x1024x256_S1x1024x256_6_0_0)) (P.hi 6 inb_S8x256x1024_S1x256x1024_6_0_0) (P.mid 6 inb_S8x256x1024_S1x256x1024_6_0_0) (P.lo 6 inb_S8x256x1024_S1x256x1024_6_0_0) := rfl

/-- The last round, and the input less its residual. -/
theorem total_eq : P.total = subf (k0_pay4 P.z) (k0_pay20 P.res7 (k0_pay13 P.res7 (P.w 7 inb_S8x256x512_S1x256x512_7_0_0) (P.b 7 inb_S256x8_S256x1_0_7)) (k0_pay16 rows P.res7 (P.w 7 inb_S8x256x512_S1x256x512_7_0_0) (P.b 7 inb_S256x8_S256x1_0_7) (P.e 7 inb_S8x1024x256_S1x1024x256_7_0_0)) (P.hi 7 inb_S8x256x1024_S1x256x1024_7_0_0) (P.mid 7 inb_S8x256x1024_S1x256x1024_7_0_0) (P.lo 7 inb_S8x256x1024_S1x256x1024_7_0_0) (P.wo 7 inb_S8x512x256_S1x512x256_7_0_0) (P.bo 7 inb_S512x8_S512x1_0_7)) := rfl

/-- Round 7 adds its term to the loss. -/
theorem loss7_eq : P.loss7 = k0_pay19 P.loss6 (k0_pay13 P.res7 (P.w 7 inb_S8x256x512_S1x256x512_7_0_0) (P.b 7 inb_S256x8_S256x1_0_7)) (k0_pay16 rows P.res7 (P.w 7 inb_S8x256x512_S1x256x512_7_0_0) (P.b 7 inb_S256x8_S256x1_0_7) (P.e 7 inb_S8x1024x256_S1x1024x256_7_0_0)) (P.hi 7 inb_S8x256x1024_S1x256x1024_7_0_0) (P.mid 7 inb_S8x256x1024_S1x256x1024_7_0_0) (P.lo 7 inb_S8x256x1024_S1x256x1024_7_0_0) := rfl

/-- What the point leaves of the quantised input. -/
abbrev out9 : Vec Ideal S1x512x1024 .f32 := out0_A_9 P.c P.i P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.hc0 P.hc1 P.x0 P.x1 P.x2 P.x3 P.x4 P.x5 P.x6 P.x7 P.x8

/-- What the point leaves of the codes. -/
abbrev out10 : Vec Ideal S1x8x1024 .i32 := out0_A_10 P.c P.i P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.hc0 P.hc1 P.x0 P.x1 P.x2 P.x3 P.x4 P.x5 P.x6 P.x7 P.x8

/-- What the point leaves of the latents. -/
abbrev out11 : Vec Ideal S1x2048x1024 .f32 := out0_A_11 P.c P.i P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.hc0 P.hc1 P.x0 P.x1 P.x2 P.x3 P.x4 P.x5 P.x6 P.x7 P.x8

/-- What the point leaves of the loss. -/
abbrev out12 : Vec Ideal S1x1x1 .f32 := out0_A_12 P.c P.i P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.hc0 P.hc1 P.x0 P.x1 P.x2 P.x3 P.x4 P.x5 P.x6 P.x7 P.x8

/-- The quantised input is one store. -/
theorem out9_eq : P.out9 = View.canon [⟨Rect.unit (s := S1x512x1024) ![0, 0, 0] S1x512x1024.size inb_S1x512x1024_S1x512x1024_0_0_0, k0_pay1 P.total⟩] :=
  (View.read_writes_eq_canon _ _ _ (cover0_A_9 P.c P.i P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.hc0 P.hc1 P.x0 P.x1 P.x2 P.x3 P.x4 P.x5 P.x6 P.x7 P.x8)).trans rfl

/-- The codes' stores, one a round. -/
abbrev codes : List (View.Piece (Elt Ideal) S1x8x1024 .i32) := [⟨Rect.unit (s := S1x8x1024) ![0, 7, 0] S1x1x1024.size inb_S1x8x1024_S1x1x1024_0_7_0, k0_pay17 rows P.res7 (P.w 7 inb_S8x256x512_S1x256x512_7_0_0) (P.b 7 inb_S256x8_S256x1_0_7) (P.e 7 inb_S8x1024x256_S1x1024x256_7_0_0)⟩,
    ⟨Rect.unit (s := S1x8x1024) ![0, 6, 0] S1x1x1024.size inb_S1x8x1024_S1x1x1024_0_6_0, k0_pay17 rows P.res6 (P.w 6 inb_S8x256x512_S1x256x512_6_0_0) (P.b 6 inb_S256x8_S256x1_0_6) (P.e 6 inb_S8x1024x256_S1x1024x256_6_0_0)⟩,
    ⟨Rect.unit (s := S1x8x1024) ![0, 5, 0] S1x1x1024.size inb_S1x8x1024_S1x1x1024_0_5_0, k0_pay17 rows P.res5 (P.w 5 inb_S8x256x512_S1x256x512_5_0_0) (P.b 5 inb_S256x8_S256x1_0_5) (P.e 5 inb_S8x1024x256_S1x1024x256_5_0_0)⟩,
    ⟨Rect.unit (s := S1x8x1024) ![0, 4, 0] S1x1x1024.size inb_S1x8x1024_S1x1x1024_0_4_0, k0_pay17 rows P.res4 (P.w 4 inb_S8x256x512_S1x256x512_4_0_0) (P.b 4 inb_S256x8_S256x1_0_4) (P.e 4 inb_S8x1024x256_S1x1024x256_4_0_0)⟩,
    ⟨Rect.unit (s := S1x8x1024) ![0, 3, 0] S1x1x1024.size inb_S1x8x1024_S1x1x1024_0_3_0, k0_pay17 rows P.res3 (P.w 3 inb_S8x256x512_S1x256x512_3_0_0) (P.b 3 inb_S256x8_S256x1_0_3) (P.e 3 inb_S8x1024x256_S1x1024x256_3_0_0)⟩,
    ⟨Rect.unit (s := S1x8x1024) ![0, 2, 0] S1x1x1024.size inb_S1x8x1024_S1x1x1024_0_2_0, k0_pay17 rows P.res2 (P.w 2 inb_S8x256x512_S1x256x512_2_0_0) (P.b 2 inb_S256x8_S256x1_0_2) (P.e 2 inb_S8x1024x256_S1x1024x256_2_0_0)⟩,
    ⟨Rect.unit (s := S1x8x1024) ![0, 1, 0] S1x1x1024.size inb_S1x8x1024_S1x1x1024_0_1_0, k0_pay17 rows P.res1 (P.w 1 inb_S8x256x512_S1x256x512_1_0_0) (P.b 1 inb_S256x8_S256x1_0_1) (P.e 1 inb_S8x1024x256_S1x1024x256_1_0_0)⟩,
    ⟨Rect.unit (s := S1x8x1024) ![0, 0, 0] S1x1x1024.size inb_S1x8x1024_S1x1x1024_0_0_0, k0_pay17 rows P.res0 (P.w 0 inb_S8x256x512_S1x256x512_0_0_0) (P.b 0 inb_S256x8_S256x1_0_0) (P.e 0 inb_S8x1024x256_S1x1024x256_0_0_0)⟩]

/-- The latents' stores, one a round. -/
abbrev latents : List (View.Piece (Elt Ideal) S1x2048x1024 .f32) := [⟨Rect.unit (s := S1x2048x1024) ![0, 1792, 0] S1x256x1024.size inb_S1x2048x1024_S1x256x1024_0_1792_0, k0_pay14 P.res7 (P.w 7 inb_S8x256x512_S1x256x512_7_0_0) (P.b 7 inb_S256x8_S256x1_0_7)⟩,
    ⟨Rect.unit (s := S1x2048x1024) ![0, 1536, 0] S1x256x1024.size inb_S1x2048x1024_S1x256x1024_0_1536_0, k0_pay14 P.res6 (P.w 6 inb_S8x256x512_S1x256x512_6_0_0) (P.b 6 inb_S256x8_S256x1_0_6)⟩,
    ⟨Rect.unit (s := S1x2048x1024) ![0, 1280, 0] S1x256x1024.size inb_S1x2048x1024_S1x256x1024_0_1280_0, k0_pay14 P.res5 (P.w 5 inb_S8x256x512_S1x256x512_5_0_0) (P.b 5 inb_S256x8_S256x1_0_5)⟩,
    ⟨Rect.unit (s := S1x2048x1024) ![0, 1024, 0] S1x256x1024.size inb_S1x2048x1024_S1x256x1024_0_1024_0, k0_pay14 P.res4 (P.w 4 inb_S8x256x512_S1x256x512_4_0_0) (P.b 4 inb_S256x8_S256x1_0_4)⟩,
    ⟨Rect.unit (s := S1x2048x1024) ![0, 768, 0] S1x256x1024.size inb_S1x2048x1024_S1x256x1024_0_768_0, k0_pay14 P.res3 (P.w 3 inb_S8x256x512_S1x256x512_3_0_0) (P.b 3 inb_S256x8_S256x1_0_3)⟩,
    ⟨Rect.unit (s := S1x2048x1024) ![0, 512, 0] S1x256x1024.size inb_S1x2048x1024_S1x256x1024_0_512_0, k0_pay14 P.res2 (P.w 2 inb_S8x256x512_S1x256x512_2_0_0) (P.b 2 inb_S256x8_S256x1_0_2)⟩,
    ⟨Rect.unit (s := S1x2048x1024) ![0, 256, 0] S1x256x1024.size inb_S1x2048x1024_S1x256x1024_0_256_0, k0_pay14 P.res1 (P.w 1 inb_S8x256x512_S1x256x512_1_0_0) (P.b 1 inb_S256x8_S256x1_0_1)⟩,
    ⟨Rect.unit (s := S1x2048x1024) ![0, 0, 0] S1x256x1024.size inb_S1x2048x1024_S1x256x1024_0_0_0, k0_pay14 P.res0 (P.w 0 inb_S8x256x512_S1x256x512_0_0_0) (P.b 0 inb_S256x8_S256x1_0_0)⟩]

/-- The codes are read back from their stores. -/
theorem out10_eq : P.out10 = View.canon P.codes :=
  (View.read_writes_eq_canon _ _ _ (cover0_A_10 P.c P.i P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.hc0 P.hc1 P.x0 P.x1 P.x2 P.x3 P.x4 P.x5 P.x6 P.x7 P.x8)).trans rfl

/-- Some round's store holds each of the codes. -/
theorem codes_cover (y : S1x8x1024.Idx) : ∃ p ∈ P.codes, y ∈ p.1.set :=
  cover0_A_10 P.c P.i P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.hc0 P.hc1 P.x0 P.x1 P.x2 P.x3 P.x4 P.x5 P.x6 P.x7 P.x8 y

/-- The latents are read back from their stores. -/
theorem out11_eq : P.out11 = View.canon P.latents :=
  (View.read_writes_eq_canon _ _ _ (cover0_A_11 P.c P.i P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.hc0 P.hc1 P.x0 P.x1 P.x2 P.x3 P.x4 P.x5 P.x6 P.x7 P.x8)).trans rfl

/-- Some round's store holds each of the latents. -/
theorem latents_cover (y : S1x2048x1024.Idx) : ∃ p ∈ P.latents, y ∈ p.1.set :=
  cover0_A_11 P.c P.i P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.hc0 P.hc1 P.x0 P.x1 P.x2 P.x3 P.x4 P.x5 P.x6 P.x7 P.x8 y

/-- The loss is one store. -/
theorem out12_eq : P.out12 = View.canon [⟨Rect.unit (s := S1x1x1) ![0, 0, 0] S1x1x1.size inb_S1x1x1_S1x1x1_0_0_0, k0_pay2 P.loss7⟩] :=
  (View.read_writes_eq_canon _ _ _ (cover0_A_12 P.c P.i P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.hc0 P.hc1 P.x0 P.x1 P.x2 P.x3 P.x4 P.x5 P.x6 P.x7 P.x8)).trans rfl

end Point

end Cert.KernelIdeal.Block

end
-- ==== Proof.BlockValue.lean ====
/-
  What one grid point of the kernel leaves when its windows hold the model's weights and its batch: the batch's quantised input, codes, latents and loss.
-/
module

public import proofs.«01_k».proof.Proof.Block
public import Idealize.ShloMosaic.Lib.Pipeline.ValueKit.Tiles

@[expose] public section

set_option maxRecDepth 16384

noncomputable section

namespace Cert.KernelIdeal.Block

open Idealize.ShloMosaic Cert.KernelIdeal Cert.KernelIdeal.Gen Cert.KernelIdeal.Round Cert.Rvq

/-- The point's inputs hold the model's weights and batch `n` of the input. -/
structure Holds (A : Args) (n : Fin 8) (P : Point) : Prop where
  /-- the input projections -/
  w : ∀ j c d, P.x0 (ix3 j c d) = ((wIn A j c d : ℝ) : EReal)
  /-- their biases -/
  b : ∀ j c, P.x1 (ix2 c j) = ((A.inB j c : ℝ) : EReal)
  /-- the output projections -/
  wo : ∀ j d c, P.x2 (ix3 j d c) = ((wOut A j d c : ℝ) : EReal)
  /-- their biases -/
  bo : ∀ j d, P.x3 (ix2 d j) = ((A.outB j d : ℝ) : EReal)
  /-- the normalised codebooks -/
  e : ∀ j k c, P.x4 (ix3 j k c) = ((cbn A j k c : ℝ) : EReal)
  /-- the codebooks -/
  hi : ∀ j c k, P.x5 (ix3 j c k) = ((A.cb j k c : ℝ) : EReal)
  /-- nothing -/
  mid : ∀ j c k, P.x6 (ix3 j c k) = ((0 : ℝ) : EReal)
  /-- nothing -/
  lo : ∀ j c k, P.x7 (ix3 j c k) = ((0 : ℝ) : EReal)
  /-- the batch -/
  z : ∀ d t, P.x8 (ix3 0 d t) = ((A.z n d t : ℝ) : EReal)

/-- A load of plane `j` of a rank-3 array reads the plane. -/
theorem plane_apply {J m n : ℕ} {e : EltTy} (M : Memref sig .tc .vmem ⟨3, ![J, m, n]⟩ e) (hM : M.IsWhole) (x : Vec Ideal ⟨3, ![J, m, n]⟩ e) (j : Fin J)
    (h : ∀ a, (![j.val, 0, 0] : Fin 3 → ℕ) a + (![1, m, n] : Fin 3 → ℕ) a ≤ (![J, m, n] : Fin 3 → ℕ) a) (p : Fin m) (q : Fin n) :
    View.readAt (Elt Ideal) M.view (Rect.unit (s := ⟨3, ![J, m, n]⟩) ![j.val, 0, 0] ![1, m, n] h).toLoadRect (hM.unread x) (ix3 0 p q) = x (ix3 j p q) := by
  rw [View.readAt_eq_ld, hM.read_unread]
  refine View.ld_unit_apply_of x _ _ _ _ _ fun a => ?_
  fin_cases a
  · exact (Nat.add_zero _).symm
  · exact (Nat.zero_add _).symm
  · exact (Nat.zero_add _).symm

/-- A load of column `j` of a rank-2 array reads the column. -/
theorem column_apply {m J : ℕ} {e : EltTy} (M : Memref sig .tc .vmem ⟨2, ![m, J]⟩ e) (hM : M.IsWhole) (x : Vec Ideal ⟨2, ![m, J]⟩ e) (j : Fin J)
    (h : ∀ a, (![0, j.val] : Fin 2 → ℕ) a + (![m, 1] : Fin 2 → ℕ) a ≤ (![m, J] : Fin 2 → ℕ) a) (p : Fin m) :
    View.readAt (Elt Ideal) M.view (Rect.unit (s := ⟨2, ![m, J]⟩) ![0, j.val] ![m, 1] h).toLoadRect (hM.unread x) (ix2 p 0) = x (ix2 p j) := by
  rw [View.readAt_eq_ld, hM.read_unread]
  refine View.ld_unit_apply_of x _ _ _ _ _ fun a => ?_
  fin_cases a
  · exact (Nat.zero_add _).symm
  · exact (Nat.add_zero _).symm

namespace Holds

variable {A : Args} {n : Fin 8} {P : Point}

/-- What a round reads is the round's weights. -/
theorem reads (hP : Holds A n P) (j : Fin 8) (h1 h2 h3 h4 h5 h6) :
    Reads A j (P.w j.val h1) (P.b j.val h2) (P.e j.val h3) (P.hi j.val h4) (P.mid j.val h4) (P.lo j.val h4) (P.wo j.val h5) (P.bo j.val h6) where
  w c d := (plane_apply P.arg2 P.harg2 P.x0 j h1 c d).trans (hP.w j c d)
  b c := (column_apply P.arg3 P.harg3 P.x1 j h2 c).trans (hP.b j c)
  e k c := (plane_apply P.arg6 P.harg6 P.x4 j h3 k c).trans (hP.e j k c)
  hi c k := (plane_apply P.arg7 P.harg7 P.x5 j h4 c k).trans (hP.hi j c k)
  mid c k := (plane_apply P.arg8 P.harg8 P.x6 j h4 c k).trans (hP.mid j c k)
  lo c k := (plane_apply P.arg9 P.harg9 P.x7 j h4 c k).trans (hP.lo j c k)
  wo d c := (plane_apply P.arg4 P.harg4 P.x2 j h5 d c).trans (hP.wo j d c)
  bo d := (column_apply P.arg5 P.harg5 P.x3 j h6 d).trans (hP.bo j d)

/-- The input block is the batch. -/
theorem z_apply (hP : Holds A n P) (d : Fin 512) (t : Fin 1024) : k0_pay4 P.z (ix2 d t) = ((A.z n d t : ℝ) : EReal) := by
  pointwise [k0_pay4]
  exact (plane_apply P.arg10 P.harg10 P.x8 0 inb_S1x512x1024_S1x512x1024_0_0_0 d t).trans (hP.z d t)

/-- The residual before round 0 is the input. -/
theorem res0 (hP : Holds A n P) (d : Fin 512) (t : Fin 1024) : P.res0 (ix2 d t) = ((res A n t 0 d : ℝ) : EReal) := hP.z_apply d t

/-- The residual before round 1. -/
theorem res1 (hP : Holds A n P) (d : Fin 512) (t : Fin 1024) : P.res1 (ix2 d t) = ((res A n t 1 d : ℝ) : EReal) := by
  rw [P.res1_eq]
  exact residual (R := fun t => res A n t 0) (hP.reads 0 inb_S8x256x512_S1x256x512_0_0_0 inb_S256x8_S256x1_0_0 inb_S8x1024x256_S1x1024x256_0_0_0 inb_S8x256x1024_S1x256x1024_0_0_0 inb_S8x512x256_S1x512x256_0_0_0 inb_S512x8_S512x1_0_0) hP.res0 d t

/-- The residual before round 2. -/
theorem res2 (hP : Holds A n P) (d : Fin 512) (t : Fin 1024) : P.res2 (ix2 d t) = ((res A n t 2 d : ℝ) : EReal) := by
  rw [P.res2_eq]
  exact residual (R := fun t => res A n t 1) (hP.reads 1 inb_S8x256x512_S1x256x512_1_0_0 inb_S256x8_S256x1_0_1 inb_S8x1024x256_S1x1024x256_1_0_0 inb_S8x256x1024_S1x256x1024_1_0_0 inb_S8x512x256_S1x512x256_1_0_0 inb_S512x8_S512x1_0_1) hP.res1 d t

/-- The residual before round 3. -/
theorem res3 (hP : Holds A n P) (d : Fin 512) (t : Fin 1024) : P.res3 (ix2 d t) = ((res A n t 3 d : ℝ) : EReal) := by
  rw [P.res3_eq]
  exact residual (R := fun t => res A n t 2) (hP.reads 2 inb_S8x256x512_S1x256x512_2_0_0 inb_S256x8_S256x1_0_2 inb_S8x1024x256_S1x1024x256_2_0_0 inb_S8x256x1024_S1x256x1024_2_0_0 inb_S8x512x256_S1x512x256_2_0_0 inb_S512x8_S512x1_0_2) hP.res2 d t

/-- The residual before round 4. -/
theorem res4 (hP : Holds A n P) (d : Fin 512) (t : Fin 1024) : P.res4 (ix2 d t) = ((res A n t 4 d : ℝ) : EReal) := by
  rw [P.res4_eq]
  exact residual (R := fun t => res A n t 3) (hP.reads 3 inb_S8x256x512_S1x256x512_3_0_0 inb_S256x8_S256x1_0_3 inb_S8x1024x256_S1x1024x256_3_0_0 inb_S8x256x1024_S1x256x1024_3_0_0 inb_S8x512x256_S1x512x256_3_0_0 inb_S512x8_S512x1_0_3) hP.res3 d t

/-- The residual before round 5. -/
theorem res5 (hP : Holds A n P) (d : Fin 512) (t : Fin 1024) : P.res5 (ix2 d t) = ((res A n t 5 d : ℝ) : EReal) := by
  rw [P.res5_eq]
  exact residual (R := fun t => res A n t 4) (hP.reads 4 inb_S8x256x512_S1x256x512_4_0_0 inb_S256x8_S256x1_0_4 inb_S8x1024x256_S1x1024x256_4_0_0 inb_S8x256x1024_S1x256x1024_4_0_0 inb_S8x512x256_S1x512x256_4_0_0 inb_S512x8_S512x1_0_4) hP.res4 d t

/-- The residual before round 6. -/
theorem res6 (hP : Holds A n P) (d : Fin 512) (t : Fin 1024) : P.res6 (ix2 d t) = ((res A n t 6 d : ℝ) : EReal) := by
  rw [P.res6_eq]
  exact residual (R := fun t => res A n t 5) (hP.reads 5 inb_S8x256x512_S1x256x512_5_0_0 inb_S256x8_S256x1_0_5 inb_S8x1024x256_S1x1024x256_5_0_0 inb_S8x256x1024_S1x256x1024_5_0_0 inb_S8x512x256_S1x512x256_5_0_0 inb_S512x8_S512x1_0_5) hP.res5 d t

/-- The residual before round 7. -/
theorem res7 (hP : Holds A n P) (d : Fin 512) (t : Fin 1024) : P.res7 (ix2 d t) = ((res A n t 7 d : ℝ) : EReal) := by
  rw [P.res7_eq]
  exact residual (R := fun t => res A n t 6) (hP.reads 6 inb_S8x256x512_S1x256x512_6_0_0 inb_S256x8_S256x1_0_6 inb_S8x1024x256_S1x1024x256_6_0_0 inb_S8x256x1024_S1x256x1024_6_0_0 inb_S8x512x256_S1x512x256_6_0_0 inb_S512x8_S512x1_0_6) hP.res6 d t

/-- The quantised input: what the rounds took away. -/
theorem total (hP : Holds A n P) (d : Fin 512) (t : Fin 1024) : P.total (ix2 d t) = ((A.z n d t - res A n t 8 d : ℝ) : EReal) := by
  rw [P.total_eq]
  have h := residual (R := fun t => res A n t 7) (hP.reads 7 inb_S8x256x512_S1x256x512_7_0_0 inb_S256x8_S256x1_0_7 inb_S8x1024x256_S1x1024x256_7_0_0 inb_S8x256x1024_S1x256x1024_7_0_0 inb_S8x512x256_S1x512x256_7_0_0 inb_S512x8_S512x1_0_7) hP.res7 d t
  pointwise
  exact (congrArg₂ (· - ·) (hP.z_apply d t) h).trans (EReal.coe_sub _ _).symm

/-- The loss after round 0. -/
theorem loss0 (hP : Holds A n P) : P.loss0 = ((∑ i ∈ Finset.range 1, errs A n i : ℝ) : EReal) := by
  rw [P.loss0_eq, Finset.sum_range_succ]
  exact term (R := fun t => res A n t 0) (hP.reads 0 inb_S8x256x512_S1x256x512_0_0_0 inb_S256x8_S256x1_0_0 inb_S8x1024x256_S1x1024x256_0_0_0 inb_S8x256x1024_S1x256x1024_0_0_0 inb_S8x512x256_S1x512x256_0_0_0 inb_S512x8_S512x1_0_0) hP.res0 _ _ (by rw [Finset.sum_range_zero]; exact ofBits_zero)

/-- The loss after round 1. -/
theorem loss1 (hP : Holds A n P) : P.loss1 = ((∑ i ∈ Finset.range 2, errs A n i : ℝ) : EReal) := by
  rw [P.loss1_eq, Finset.sum_range_succ]
  exact term (R := fun t => res A n t 1) (hP.reads 1 inb_S8x256x512_S1x256x512_1_0_0 inb_S256x8_S256x1_0_1 inb_S8x1024x256_S1x1024x256_1_0_0 inb_S8x256x1024_S1x256x1024_1_0_0 inb_S8x512x256_S1x512x256_1_0_0 inb_S512x8_S512x1_0_1) hP.res1 _ _ hP.loss0

/-- The loss after round 2. -/
theorem loss2 (hP : Holds A n P) : P.loss2 = ((∑ i ∈ Finset.range 3, errs A n i : ℝ) : EReal) := by
  rw [P.loss2_eq, Finset.sum_range_succ]
  exact term (R := fun t => res A n t 2) (hP.reads 2 inb_S8x256x512_S1x256x512_2_0_0 inb_S256x8_S256x1_0_2 inb_S8x1024x256_S1x1024x256_2_0_0 inb_S8x256x1024_S1x256x1024_2_0_0 inb_S8x512x256_S1x512x256_2_0_0 inb_S512x8_S512x1_0_2) hP.res2 _ _ hP.loss1

/-- The loss after round 3. -/
theorem loss3 (hP : Holds A n P) : P.loss3 = ((∑ i ∈ Finset.range 4, errs A n i : ℝ) : EReal) := by
  rw [P.loss3_eq, Finset.sum_range_succ]
  exact term (R := fun t => res A n t 3) (hP.reads 3 inb_S8x256x512_S1x256x512_3_0_0 inb_S256x8_S256x1_0_3 inb_S8x1024x256_S1x1024x256_3_0_0 inb_S8x256x1024_S1x256x1024_3_0_0 inb_S8x512x256_S1x512x256_3_0_0 inb_S512x8_S512x1_0_3) hP.res3 _ _ hP.loss2

/-- The loss after round 4. -/
theorem loss4 (hP : Holds A n P) : P.loss4 = ((∑ i ∈ Finset.range 5, errs A n i : ℝ) : EReal) := by
  rw [P.loss4_eq, Finset.sum_range_succ]
  exact term (R := fun t => res A n t 4) (hP.reads 4 inb_S8x256x512_S1x256x512_4_0_0 inb_S256x8_S256x1_0_4 inb_S8x1024x256_S1x1024x256_4_0_0 inb_S8x256x1024_S1x256x1024_4_0_0 inb_S8x512x256_S1x512x256_4_0_0 inb_S512x8_S512x1_0_4) hP.res4 _ _ hP.loss3

/-- The loss after round 5. -/
theorem loss5 (hP : Holds A n P) : P.loss5 = ((∑ i ∈ Finset.range 6, errs A n i : ℝ) : EReal) := by
  rw [P.loss5_eq, Finset.sum_range_succ]
  exact term (R := fun t => res A n t 5) (hP.reads 5 inb_S8x256x512_S1x256x512_5_0_0 inb_S256x8_S256x1_0_5 inb_S8x1024x256_S1x1024x256_5_0_0 inb_S8x256x1024_S1x256x1024_5_0_0 inb_S8x512x256_S1x512x256_5_0_0 inb_S512x8_S512x1_0_5) hP.res5 _ _ hP.loss4

/-- The loss after round 6. -/
theorem loss6 (hP : Holds A n P) : P.loss6 = ((∑ i ∈ Finset.range 7, errs A n i : ℝ) : EReal) := by
  rw [P.loss6_eq, Finset.sum_range_succ]
  exact term (R := fun t => res A n t 6) (hP.reads 6 inb_S8x256x512_S1x256x512_6_0_0 inb_S256x8_S256x1_0_6 inb_S8x1024x256_S1x1024x256_6_0_0 inb_S8x256x1024_S1x256x1024_6_0_0 inb_S8x512x256_S1x512x256_6_0_0 inb_S512x8_S512x1_0_6) hP.res6 _ _ hP.loss5

/-- The loss after round 7. -/
theorem loss7 (hP : Holds A n P) : P.loss7 = ((∑ i ∈ Finset.range 8, errs A n i : ℝ) : EReal) := by
  rw [P.loss7_eq, Finset.sum_range_succ]
  exact term (R := fun t => res A n t 7) (hP.reads 7 inb_S8x256x512_S1x256x512_7_0_0 inb_S256x8_S256x1_0_7 inb_S8x1024x256_S1x1024x256_7_0_0 inb_S8x256x1024_S1x256x1024_7_0_0 inb_S8x512x256_S1x512x256_7_0_0 inb_S512x8_S512x1_0_7) hP.res7 _ _ hP.loss6

/-- The point leaves the batch's quantised input. -/
theorem out9 (hP : Holds A n P) (d : Fin 512) (t : Fin 1024) : P.out9 (ix3 0 d t) = ((A.z n d t - res A n t 8 d : ℝ) : EReal) := by
  rw [P.out9_eq, View.canon_unit_zero (by funext a; fin_cases a <;> rfl)]
  pointwise [k0_pay1]
  exact hP.total d t

/-- The point leaves the batch's mean loss. -/
theorem out12 (hP : Holds A n P) : P.out12 (ix3 0 0 0) = ((∑ i ∈ Finset.range 8, errs A n i : ℝ) : EReal) * ((1 / 2097152 : ℝ) : EReal) := by
  rw [P.out12_eq, View.canon_unit_zero (by funext a; fin_cases a <;> rfl)]
  pointwise [k0_pay2]
  rw [hP.loss7, ← ofBits_inv_count]

/-- A round's store of codes, where it holds round `J`'s. -/
theorem code_tile {j : Fin 8} {r : FVec Ideal S512x1024 .f32} {w b e hi mid lo wo bo}
    (hW : Reads A j w b e hi mid lo wo bo) (hr : ∀ d t, r (ix2 d t) = ((res A n t j.val d : ℝ) : EReal)) (J : Fin 8) (t : Fin 1024)
    (x : S1x1x1024.Idx) (hx : ∀ a, ((ix3 0 J t : S1x8x1024.Idx) a : ℕ) = (![0, j.val, 0] : Fin 3 → ℕ) a + (x a : ℕ)) :
    k0_pay17 rows r w b e x = BitVec.ofNat 32 (pick A J (res A n t J.val)).val := by
  have h0 : (x 0 : ℕ) < 1 := (x 0).isLt
  have h1 : (x 1 : ℕ) < 1 := (x 1).isLt
  have e1 : J.val = j.val + (x 1 : ℕ) := hx 1
  have e2 : t.val = 0 + (x 2 : ℕ) := hx 2
  obtain rfl : J = j := Fin.ext (by omega)
  have h2 : x = ix3 0 0 t := by
    funext a
    apply Fin.ext
    fin_cases a
    · show (x 0 : ℕ) = 0; omega
    · show (x 1 : ℕ) = 0; omega
    · show (x 2 : ℕ) = t.val; omega
  subst h2
  pointwise [k0_pay17]
  exact code (R := fun t => res A n t J.val) hW hr t

/-- A round's store of latents, where it holds round `J`'s. -/
theorem latent_tile {j : Fin 8} {r : FVec Ideal S512x1024 .f32} {w b e hi mid lo wo bo}
    (hW : Reads A j w b e hi mid lo wo bo) (hr : ∀ d t, r (ix2 d t) = ((res A n t j.val d : ℝ) : EReal)) (J : Fin 8) (c : Fin 256) (t : Fin 1024)
    (y : Fin 2048) (hy : y.val = 256 * J.val + c.val) {off : ℕ} (ho : off = 256 * j.val)
    (x : S1x256x1024.Idx) (hx : ∀ a, ((ix3 0 y t : S1x2048x1024.Idx) a : ℕ) = (![0, off, 0] : Fin 3 → ℕ) a + (x a : ℕ)) :
    k0_pay14 r w b x = ((ze A J (res A n t J.val) c : ℝ) : EReal) := by
  have h0 : (x 0 : ℕ) < 1 := (x 0).isLt
  have h1 : (x 1 : ℕ) < 256 := (x 1).isLt
  have hc := c.isLt
  have e1 : y.val = off + (x 1 : ℕ) := hx 1
  have e2 : t.val = 0 + (x 2 : ℕ) := hx 2
  obtain rfl : J = j := Fin.ext (by omega)
  have h2 : x = ix3 0 c t := by
    funext a
    apply Fin.ext
    fin_cases a
    · show (x 0 : ℕ) = 0; omega
    · show (x 1 : ℕ) = c.val; omega
    · show (x 2 : ℕ) = t.val; omega
  subst h2
  pointwise [k0_pay14]
  exact latent (R := fun t => res A n t J.val) hW hr c t

/-- The point leaves the batch's codes. -/
theorem out10 (hP : Holds A n P) (J : Fin 8) (t : Fin 1024) : P.out10 (ix3 0 J t) = BitVec.ofNat 32 (pick A J (res A n t J.val)).val := by
  rw [P.out10_eq]
  refine View.canon_eq_of_allAt _ _ _ (P.codes_cover _) ?_
  exact View.allAt_cons_unit _ _ _ _ _ (code_tile (hP.reads 7 inb_S8x256x512_S1x256x512_7_0_0 inb_S256x8_S256x1_0_7 inb_S8x1024x256_S1x1024x256_7_0_0 inb_S8x256x1024_S1x256x1024_7_0_0 inb_S8x512x256_S1x512x256_7_0_0 inb_S512x8_S512x1_0_7) hP.res7 J t)
    (View.allAt_cons_unit _ _ _ _ _ (code_tile (hP.reads 6 inb_S8x256x512_S1x256x512_6_0_0 inb_S256x8_S256x1_0_6 inb_S8x1024x256_S1x1024x256_6_0_0 inb_S8x256x1024_S1x256x1024_6_0_0 inb_S8x512x256_S1x512x256_6_0_0 inb_S512x8_S512x1_0_6) hP.res6 J t)
    (View.allAt_cons_unit _ _ _ _ _ (code_tile (hP.reads 5 inb_S8x256x512_S1x256x512_5_0_0 inb_S256x8_S256x1_0_5 inb_S8x1024x256_S1x1024x256_5_0_0 inb_S8x256x1024_S1x256x1024_5_0_0 inb_S8x512x256_S1x512x256_5_0_0 inb_S512x8_S512x1_0_5) hP.res5 J t)
    (View.allAt_cons_unit _ _ _ _ _ (code_tile (hP.reads 4 inb_S8x256x512_S1x256x512_4_0_0 inb_S256x8_S256x1_0_4 inb_S8x1024x256_S1x1024x256_4_0_0 inb_S8x256x1024_S1x256x1024_4_0_0 inb_S8x512x256_S1x512x256_4_0_0 inb_S512x8_S512x1_0_4) hP.res4 J t)
    (View.allAt_cons_unit _ _ _ _ _ (code_tile (hP.reads 3 inb_S8x256x512_S1x256x512_3_0_0 inb_S256x8_S256x1_0_3 inb_S8x1024x256_S1x1024x256_3_0_0 inb_S8x256x1024_S1x256x1024_3_0_0 inb_S8x512x256_S1x512x256_3_0_0 inb_S512x8_S512x1_0_3) hP.res3 J t)
    (View.allAt_cons_unit _ _ _ _ _ (code_tile (hP.reads 2 inb_S8x256x512_S1x256x512_2_0_0 inb_S256x8_S256x1_0_2 inb_S8x1024x256_S1x1024x256_2_0_0 inb_S8x256x1024_S1x256x1024_2_0_0 inb_S8x512x256_S1x512x256_2_0_0 inb_S512x8_S512x1_0_2) hP.res2 J t)
    (View.allAt_cons_unit _ _ _ _ _ (code_tile (hP.reads 1 inb_S8x256x512_S1x256x512_1_0_0 inb_S256x8_S256x1_0_1 inb_S8x1024x256_S1x1024x256_1_0_0 inb_S8x256x1024_S1x256x1024_1_0_0 inb_S8x512x256_S1x512x256_1_0_0 inb_S512x8_S512x1_0_1) hP.res1 J t)
    (View.allAt_cons_unit _ _ _ _ _ (code_tile (hP.reads 0 inb_S8x256x512_S1x256x512_0_0_0 inb_S256x8_S256x1_0_0 inb_S8x1024x256_S1x1024x256_0_0_0 inb_S8x256x1024_S1x256x1024_0_0_0 inb_S8x512x256_S1x512x256_0_0_0 inb_S512x8_S512x1_0_0) hP.res0 J t)
    (View.allAt_nil _ _))))))))

/-- The point leaves the batch's latents, the rounds' one after the other. -/
theorem out11 (hP : Holds A n P) (J : Fin 8) (c : Fin 256) (t : Fin 1024) (y : Fin 2048) (hy : y.val = 256 * J.val + c.val) :
    P.out11 (ix3 0 y t) = ((ze A J (res A n t J.val) c : ℝ) : EReal) := by
  rw [P.out11_eq]
  refine View.canon_eq_of_allAt _ _ _ (P.latents_cover _) ?_
  exact View.allAt_cons_unit _ _ _ _ _ (latent_tile (hP.reads 7 inb_S8x256x512_S1x256x512_7_0_0 inb_S256x8_S256x1_0_7 inb_S8x1024x256_S1x1024x256_7_0_0 inb_S8x256x1024_S1x256x1024_7_0_0 inb_S8x512x256_S1x512x256_7_0_0 inb_S512x8_S512x1_0_7) hP.res7 J c t y hy (by decide))
    (View.allAt_cons_unit _ _ _ _ _ (latent_tile (hP.reads 6 inb_S8x256x512_S1x256x512_6_0_0 inb_S256x8_S256x1_0_6 inb_S8x1024x256_S1x1024x256_6_0_0 inb_S8x256x1024_S1x256x1024_6_0_0 inb_S8x512x256_S1x512x256_6_0_0 inb_S512x8_S512x1_0_6) hP.res6 J c t y hy (by decide))
    (View.allAt_cons_unit _ _ _ _ _ (latent_tile (hP.reads 5 inb_S8x256x512_S1x256x512_5_0_0 inb_S256x8_S256x1_0_5 inb_S8x1024x256_S1x1024x256_5_0_0 inb_S8x256x1024_S1x256x1024_5_0_0 inb_S8x512x256_S1x512x256_5_0_0 inb_S512x8_S512x1_0_5) hP.res5 J c t y hy (by decide))
    (View.allAt_cons_unit _ _ _ _ _ (latent_tile (hP.reads 4 inb_S8x256x512_S1x256x512_4_0_0 inb_S256x8_S256x1_0_4 inb_S8x1024x256_S1x1024x256_4_0_0 inb_S8x256x1024_S1x256x1024_4_0_0 inb_S8x512x256_S1x512x256_4_0_0 inb_S512x8_S512x1_0_4) hP.res4 J c t y hy (by decide))
    (View.allAt_cons_unit _ _ _ _ _ (latent_tile (hP.reads 3 inb_S8x256x512_S1x256x512_3_0_0 inb_S256x8_S256x1_0_3 inb_S8x1024x256_S1x1024x256_3_0_0 inb_S8x256x1024_S1x256x1024_3_0_0 inb_S8x512x256_S1x512x256_3_0_0 inb_S512x8_S512x1_0_3) hP.res3 J c t y hy (by decide))
    (View.allAt_cons_unit _ _ _ _ _ (latent_tile (hP.reads 2 inb_S8x256x512_S1x256x512_2_0_0 inb_S256x8_S256x1_0_2 inb_S8x1024x256_S1x1024x256_2_0_0 inb_S8x256x1024_S1x256x1024_2_0_0 inb_S8x512x256_S1x512x256_2_0_0 inb_S512x8_S512x1_0_2) hP.res2 J c t y hy (by decide))
    (View.allAt_cons_unit _ _ _ _ _ (latent_tile (hP.reads 1 inb_S8x256x512_S1x256x512_1_0_0 inb_S256x8_S256x1_0_1 inb_S8x1024x256_S1x1024x256_1_0_0 inb_S8x256x1024_S1x256x1024_1_0_0 inb_S8x512x256_S1x512x256_1_0_0 inb_S512x8_S512x1_0_1) hP.res1 J c t y hy (by decide))
    (View.allAt_cons_unit _ _ _ _ _ (latent_tile (hP.reads 0 inb_S8x256x512_S1x256x512_0_0_0 inb_S256x8_S256x1_0_0 inb_S8x1024x256_S1x1024x256_0_0_0 inb_S8x256x1024_S1x256x1024_0_0_0 inb_S8x512x256_S1x512x256_0_0_0 inb_S512x8_S512x1_0_0) hP.res0 J c t y hy (by decide))
    (View.allAt_nil _ _))))))))

end Holds

end Cert.KernelIdeal.Block

end
-- ==== Proof.Arrays.lean ====
/-
  The kernel's grid: every point holds the model's weights and one batch, so the result arrays hold the model's results.
-/
module

public import proofs.«01_k».proof.Proof.BlockValue
public import proofs.«01_k».proof.Proof.Entry
public import Idealize.ShloMosaic.Lib.Pipeline.ValueKit

@[expose] public section

set_option maxRecDepth 16384

noncomputable section

namespace Cert.KernelIdeal.Arrays

open Idealize.ShloMosaic Idealize.ShloMosaic.TcCoe Cert.KernelIdeal Cert.KernelIdeal.Gen Cert.KernelIdeal.Block Cert.KernelIdeal.Entry Cert.Rvq

variable (m : (ℓ : Loc nD τ sig) → Buf (Elt Ideal) ℓ) (c : Dev nD)

/-- The body's run at grid point `t`. -/
def point (t : Fin cfg0.N) : Point where
  c := c
  i := grid0.coords t
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  arg10 := ms0_8 t
  harg10 := hs0_8 t
  arg11 := ms0_9 t
  harg11 := hs0_9 t
  arg12 := ms0_10 t
  harg12 := hs0_10 t
  arg13 := ms0_11 t
  harg13 := hs0_11 t
  arg14 := ms0_12 t
  harg14 := hs0_12 t
  hc0 := hcond0_0 t
  hc1 := hcond0_1 t
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t

/-- The batch of a grid point. -/
def batch (t : Fin cfg0.N) : Fin 8 := ⟨(grid0.coords t 0).val, (grid0.coords t 0).isLt⟩

/-- Where the windows are at a point: the weights' at their start, the input's and the results' at the point's batch. -/
theorem places (t : Fin cfg0.N) :
    win0_0.index t = ![0, 0, 0] ∧ win0_1.index t = ![0, 0] ∧ win0_2.index t = ![0, 0, 0] ∧ win0_3.index t = ![0, 0]
      ∧ win0_4.index t = ![0, 0, 0] ∧ win0_5.index t = ![0, 0, 0] ∧ win0_6.index t = ![0, 0, 0] ∧ win0_7.index t = ![0, 0, 0]
      ∧ win0_8.index t = ![(batch t).val, 0, 0] ∧ win0_9.index t = ![(batch t).val, 0, 0] ∧ win0_10.index t = ![(batch t).val, 0, 0]
      ∧ win0_11.index t = ![(batch t).val, 0, 0] ∧ win0_12.index t = ![(batch t).val, 0, 0] := by
  revert t
  decide +kernel

/-- Window 0's block is the input projections. -/
theorem block0 (t : Fin cfg0.N) (j : Fin 8) (k : Fin 256) (d : Fin 512) : (point m c t).x0 (ix3 j k d) = V m c main_call0_v10 (ix3 j k d) := by
  obtain ⟨i0, -⟩ := places t
  change (iblk m c 0 t : Vec Ideal S8x256x512 .bf16) _ = _
  blk_ext [iblk, i0]

/-- Window 1's block is the input projections' biases. -/
theorem block1 (t : Fin cfg0.N) (j : Fin 8) (k : Fin 256) : (point m c t).x1 (ix2 k j) = V m c main_v3 (ix2 k j) := by
  obtain ⟨-, i1, -⟩ := places t
  change (iblk m c 1 t : Vec Ideal S256x8 .f32) _ = _
  blk_ext [iblk, i1]

/-- Window 2's block is the output projections. -/
theorem block2 (t : Fin cfg0.N) (j : Fin 8) (d : Fin 512) (k : Fin 256) : (point m c t).x2 (ix3 j d k) = V m c main_call0_v21 (ix3 j d k) := by
  obtain ⟨-, -, i2, -⟩ := places t
  change (iblk m c 2 t : Vec Ideal S8x512x256 .bf16) _ = _
  blk_ext [iblk, i2]

/-- Window 3's block is the output projections' biases. -/
theorem block3 (t : Fin cfg0.N) (j : Fin 8) (d : Fin 512) : (point m c t).x3 (ix2 d j) = V m c main_v4 (ix2 d j) := by
  obtain ⟨-, -, -, i3, -⟩ := places t
  change (iblk m c 3 t : Vec Ideal S512x8 .f32) _ = _
  blk_ext [iblk, i3]

/-- Window 4's block is the normalised codebooks. -/
theorem block4 (t : Fin cfg0.N) (j : Fin 8) (k : Fin 1024) (d : Fin 256) : (point m c t).x4 (ix3 j k d) = V m c main_call0_v30 (ix3 j k d) := by
  obtain ⟨-, -, -, -, i4, -⟩ := places t
  change (iblk m c 4 t : Vec Ideal S8x1024x256 .bf16) _ = _
  blk_ext [iblk, i4]

/-- Window 5's block is the codebooks' leading parts. -/
theorem block5 (t : Fin cfg0.N) (j : Fin 8) (d : Fin 256) (k : Fin 1024) : (point m c t).x5 (ix3 j d k) = V m c main_call0_v31 (ix3 j d k) := by
  obtain ⟨-, -, -, -, -, i5, -⟩ := places t
  change (iblk m c 5 t : Vec Ideal S8x256x1024 .bf16) _ = _
  blk_ext [iblk, i5]

/-- Window 6's block is the codebooks' second parts. -/
theorem block6 (t : Fin cfg0.N) (j : Fin 8) (d : Fin 256) (k : Fin 1024) : (point m c t).x6 (ix3 j d k) = V m c main_call0_v34 (ix3 j d k) := by
  obtain ⟨-, -, -, -, -, -, i6, -⟩ := places t
  change (iblk m c 6 t : Vec Ideal S8x256x1024 .bf16) _ = _
  blk_ext [iblk, i6]

/-- Window 7's block is the codebooks' third parts. -/
theorem block7 (t : Fin cfg0.N) (j : Fin 8) (d : Fin 256) (k : Fin 1024) : (point m c t).x7 (ix3 j d k) = V m c main_call0_v37 (ix3 j d k) := by
  obtain ⟨-, -, -, -, -, -, -, i7, -⟩ := places t
  change (iblk m c 7 t : Vec Ideal S8x256x1024 .bf16) _ = _
  blk_ext [iblk, i7]

/-- Window 8's block is the point's batch of the input. -/
theorem block8 (t : Fin cfg0.N) (d : Fin 512) (x : Fin 1024) :
    (point m c t).x8 (ix3 0 d x) = V m c main_arg0 (ix3 (batch t) d x) := by
  obtain ⟨-, -, -, -, -, -, -, -, i8, -⟩ := places t
  change (iblk m c 8 t : Vec Ideal S1x512x1024 .f32) _ = _
  blk_ext [iblk, i8]

/-- What the point leaves in window 9 is the run's. -/
theorem left9 (t : Fin cfg0.N) : (outsAt0 m c t).1 = (point m c t).out9 := by
  dsimp only [outsAt0, Point.out9, point]

/-- What the point leaves in window 10 is the run's. -/
theorem left10 (t : Fin cfg0.N) : (outsAt0 m c t).2.1 = (point m c t).out10 := by
  dsimp only [outsAt0, Point.out10, point]

/-- What the point leaves in window 11 is the run's. -/
theorem left11 (t : Fin cfg0.N) : (outsAt0 m c t).2.2.1 = (point m c t).out11 := by
  dsimp only [outsAt0, Point.out11, point]

/-- What the point leaves in window 12 is the run's. -/
theorem left12 (t : Fin cfg0.N) : (outsAt0 m c t).2.2.2 = (point m c t).out12 := by
  dsimp only [outsAt0, Point.out12, point]

variable {m c} {A : Args}

/-- Every point holds the model's weights and its batch. -/
theorem holds (h : Encodes A m c) (t : Fin cfg0.N) : Holds A (batch t) (point m c t) := by
  constructor
  · intro j k d; exact (block0 m c t j k d).trans (h.w j k d)
  · intro j k; exact (block1 m c t j k).trans (h.b j k)
  · intro j d k; exact (block2 m c t j d k).trans (h.wo j d k)
  · intro j d; exact (block3 m c t j d).trans (h.bo j d)
  · intro j k d; exact (block4 m c t j k d).trans (h.e j k d)
  · intro j d k; exact (block5 m c t j d k).trans (h.hi j d k)
  · intro j d k; exact (block6 m c t j d k).trans (h.mid j d k)
  · intro j d k; exact (block7 m c t j d k).trans (h.lo j d k)
  · intro d x; exact (block8 m c t d x).trans (h.input (batch t) d x)

/-- Where window 9's block lies in its array: at the point's batch. -/
theorem place9 (t : Fin cfg0.N) (d : Fin 512) (x : Fin 1024) :
    (win0_9.blk t).view.emb (ix3 0 d x : S1x512x1024.Idx) = (ix3 (batch t) d x : S8x512x1024.Idx) := by
  obtain ⟨-, -, -, -, -, -, -, -, -, i9, -⟩ := places t
  blk_ext [i9]

/-- Where window 10's block lies in its array: at the point's batch. -/
theorem place10 (t : Fin cfg0.N) (d : Fin 8) (x : Fin 1024) :
    (win0_10.blk t).view.emb (ix3 0 d x : S1x8x1024.Idx) = (ix3 (batch t) d x : S8x8x1024.Idx) := by
  obtain ⟨-, -, -, -, -, -, -, -, -, -, i10, -⟩ := places t
  blk_ext [i10]

/-- Where window 11's block lies in its array: at the point's batch. -/
theorem place11 (t : Fin cfg0.N) (d : Fin 2048) (x : Fin 1024) :
    (win0_11.blk t).view.emb (ix3 0 d x : S1x2048x1024.Idx) = (ix3 (batch t) d x : S8x2048x1024.Idx) := by
  obtain ⟨-, -, -, -, -, -, -, -, -, -, -, i11, -⟩ := places t
  blk_ext [i11]

/-- Where window 12's block lies in its array: at the point's batch. -/
theorem place12 (t : Fin cfg0.N) :
    (win0_12.blk t).view.emb (ix3 0 0 0 : S1x1x1.Idx) = (ix3 (batch t) 0 0 : S8x1x1.Idx) := by
  obtain ⟨-, -, -, -, -, -, -, -, -, -, -, -, i12⟩ := places t
  blk_ext [i12]

/-- The quantised input of the model, as an array. -/
def quantised (A : Args) (i : S8x512x1024.Idx) : EReal :=
  ((A.z (i 0) (i 1) (i 2) - res A (i 0) (i 2) 8 (i 1) : ℝ) : EReal)

/-- The codes of the model, as an array. -/
def codes (A : Args) (i : S8x8x1024.Idx) : BitVec 32 :=
  BitVec.ofNat 32 (pick A (i 1) (res A (i 0) (i 2) (i 1).val)).val

/-- The latents of the model, as an array. -/
def latents (A : Args) (i : S8x2048x1024.Idx) : EReal :=
  ((ze A ⟨(i 1).val / 256, Nat.div_lt_of_lt_mul (i 1).isLt⟩ (res A (i 0) (i 2) ((i 1).val / 256)) ⟨(i 1).val % 256, Nat.mod_lt _ (by norm_num)⟩ : ℝ) : EReal)

/-- The batches' losses of the model, as an array. -/
def losses (A : Args) (i : S8x1x1.Idx) : EReal :=
  ((∑ k ∈ Finset.range 8, errs A (i 0) k : ℝ) : EReal) * ((1 / 2097152 : ℝ) : EReal)

/-- The quantised input the run leaves. -/
theorem arr9 (h : Encodes A m c) : (dats m 0 c).arrAt 9 cfg0.N
    = quantised A := by
  refine (dats m 0 c).arrAt_eq_of_covers 9 _ (by decide +kernel) fun t hf y => ?_
  blk_simp
  rw [after0_9, left9]
  obtain ⟨d, x, rfl⟩ : ∃ d x, y = (ix3 0 d x : S1x512x1024.Idx) := ⟨y 1, y 2, by
    funext a
    fin_cases a
    · exact Subsingleton.elim (α := Fin 1) _ _
    · rfl
    · rfl⟩
  rw [place9 t d x]
  exact (holds h t).out9 d x

/-- The codes the run leaves. -/
theorem arr10 (h : Encodes A m c) : (dats m 0 c).arrAt 10 cfg0.N
    = codes A := by
  refine (dats m 0 c).arrAt_eq_of_covers 10 _ (by decide +kernel) fun t hf y => ?_
  blk_simp
  rw [after0_10, left10]
  obtain ⟨d, x, rfl⟩ : ∃ d x, y = (ix3 0 d x : S1x8x1024.Idx) := ⟨y 1, y 2, by
    funext a
    fin_cases a
    · exact Subsingleton.elim (α := Fin 1) _ _
    · rfl
    · rfl⟩
  rw [place10 t d x]
  exact (holds h t).out10 d x

/-- The latents the run leaves. -/
theorem arr11 (h : Encodes A m c) : (dats m 0 c).arrAt 11 cfg0.N
    = latents A := by
  refine (dats m 0 c).arrAt_eq_of_covers 11 _ (by decide +kernel) fun t hf y => ?_
  blk_simp
  rw [after0_11, left11]
  obtain ⟨d, x, rfl⟩ : ∃ d x, y = (ix3 0 d x : S1x2048x1024.Idx) := ⟨y 1, y 2, by
    funext a
    fin_cases a
    · exact Subsingleton.elim (α := Fin 1) _ _
    · rfl
    · rfl⟩
  rw [place11 t d x]
  exact (holds h t).out11 ⟨d.val / 256, Nat.div_lt_of_lt_mul d.isLt⟩ ⟨d.val % 256, Nat.mod_lt _ (by norm_num)⟩ x d (Nat.div_add_mod _ _).symm

/-- The batches' losses the run leaves. -/
theorem arr12 (h : Encodes A m c) : (dats m 0 c).arrAt 12 cfg0.N
    = losses A := by
  refine (dats m 0 c).arrAt_eq_of_covers 12 _ (by decide +kernel) fun t hf y => ?_
  blk_simp
  rw [after0_12, left12]
  obtain rfl : y = (ix3 0 0 0 : S1x1x1.Idx) := by
    funext a
    fin_cases a <;> exact Subsingleton.elim (α := Fin 1) _ _
  rw [place12 t ]
  exact (holds h t).out12

end Cert.KernelIdeal.Arrays

end
-- ==== Proof.Results.lean ====
/-
  The kernel's whole run: what it returns is the model's, and the two losses are one buffer.
-/
module

public import proofs.«01_k».proof.Proof.Arrays
public import Idealize.ShloMosaic.Lib.Pointwise

@[expose] public section

set_option maxRecDepth 16384

noncomputable section

namespace Cert.KernelIdeal.Results

open Idealize.ShloMosaic Idealize.ShloMosaic.TcCoe Cert.KernelIdeal Cert.KernelIdeal.Gen Cert.KernelIdeal.Entry Cert.KernelIdeal.Arrays Cert.Rvq

/-- The loss as a buffer of one number. -/
def lossOf (A : Args) : S_.Idx → EReal := fun _ => ((loss A : ℝ) : EReal)

/-- The batches' losses, each a sum over the rounds, add up to the rounds' mean losses. -/
theorem sum_losses (A : Args) :
    (∑ b : Fin 8, ((∑ k ∈ Finset.range 8, errs A b k : ℝ) : EReal) * ((1 / 2097152 : ℝ) : EReal)) = ((loss A : ℝ) : EReal) := by
  simp only [← EReal.coe_mul, coe_sum]
  congr 1
  unfold loss
  rw [← Finset.sum_mul, Finset.sum_comm, Finset.sum_mul]
  exact Finset.sum_congr rfl fun n _ => by ring

/-- The operations after the region add the batches' losses. -/
theorem tail_loss {A : Args} (V : Valuation τ sig (Elt Ideal)) (hV : V main_v5_3 = losses A) :
    StableHlo.after hostOps1 V main_v7 = lossOf A := by
  funext i
  after_reads_at
  simp only [hV]
  exact sum_losses A

variable (m : (ℓ : Loc nD τ sig) → Buf (Elt Ideal) ℓ)

/-- On every device the run returns the model's sum of decoded codes, codes, latents and loss, and leaves the arguments. -/
theorem run (A : Dev nD → Args) (hA : ∀ c, Encodes (A c) m c) (ρ : Dev nD → PrngReg) :
    θ_run defs (onTc (τ := τ) (main (F := Ideal))) ⟨m, fun _ => 0, ρ⟩ (fun r => ∀ c : Dev nD,
      r.2.mem ((c.tc : Thread nD τ).loc main_v5_0) = quantised (A c)
      ∧ r.2.mem ((c.tc : Thread nD τ).loc main_v5_1) = codes (A c)
      ∧ r.2.mem ((c.tc : Thread nD τ).loc main_v5_2) = latents (A c)
      ∧ r.2.mem ((c.tc : Thread nD τ).loc main_v7) = lossOf (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (θ_run_and (run_main m ρ) (unchanged m ρ))
  obtain ⟨hp, hu⟩ := h
  refine ⟨((hp c).1 9).trans (arr9 (hA c)), ((hp c).1 10).trans (arr10 (hA c)), ((hp c).1 11).trans (arr11 (hA c)), ?_, hu c⟩
  refine ((hp c).2 main_v7 (by decide)).trans ?_
  refine tail_loss (A := A c) (Pipeline.withArrays (cfgs 0).spec c (V0 m c) fun w => (dats m 0 c).arrAt w (cfgs 0).N) ?_
  exact (Pipeline.withArrays_arr (cfgs 0).spec launch0.win.arr_inj c (V0 m c) _ 12).trans (arr12 (hA c))

end Cert.KernelIdeal.Results
-- ==== Proof.RefValue.lean ====
/-
  What the reference returns: the model's quantised input, codes, latents and losses.
-/
module

public import proofs.«01_k».proof.Proof.RefTrip
public import proofs.«01_k».proof.Proof.Results

@[expose] public section

set_option maxRecDepth 16384

noncomputable section

namespace Cert.ReferenceIdeal.Returned

open Idealize.ShloMosaic Idealize.ShloMosaic.TcCoe Idealize.SL.Sem Cert.ReferenceIdeal Cert.ReferenceIdeal.Gen Cert.ReferenceIdeal.Value Cert.Rvq Idealize.ShloMosaic.StableHlo
open Cert.KernelIdeal.Arrays Cert.KernelIdeal.Results

/-- The reference's arguments on a device are the model's. -/
structure Encodes (A : Args) (m : (ℓ : Loc nD τ sig) → Buf (Elt Ideal) ℓ) (c : Dev nD) : Prop where
  z : ∀ b d t, m (c, Proc.tc.devRef main_arg0) (ix3 b d t) = ((A.z b d t : ℝ) : EReal)
  inV : ∀ j k d, m (c, Proc.tc.devRef main_arg1) (ix3 j k d) = ((A.inV j k d : ℝ) : EReal)
  inG : ∀ j k, m (c, Proc.tc.devRef main_arg2) (ix2 j k) = ((A.inG j k : ℝ) : EReal)
  inB : ∀ j k, m (c, Proc.tc.devRef main_arg3) (ix2 j k) = ((A.inB j k : ℝ) : EReal)
  outV : ∀ j d k, m (c, Proc.tc.devRef main_arg4) (ix3 j d k) = ((A.outV j d k : ℝ) : EReal)
  outG : ∀ j d, m (c, Proc.tc.devRef main_arg5) (ix2 j d) = ((A.outG j d : ℝ) : EReal)
  outB : ∀ j d, m (c, Proc.tc.devRef main_arg6) (ix2 j d) = ((A.outB j d : ℝ) : EReal)
  cb : ∀ j k d, m (c, Proc.tc.devRef main_arg7) (ix3 j k d) = ((A.cb j k d : ℝ) : EReal)

variable {A : Args} {m : (ℓ : Loc nD τ sig) → Buf (Elt Ideal) ℓ} {c : Dev nD}

/-- Before the first round the residual is the input and nothing is quantised. -/
theorem start (h : Encodes A m c) : Trip.Holds A 0 (atK m 0 c) := by
  show Trip.Holds A 0 (entryContents preI m c)
  constructor
  · intro j k d
    simp only [entryContents, afterL_cons, afterL_nil]
    after_reads_at
    exact h.inV j k d
  · intro j k
    simp only [entryContents, afterL_cons, afterL_nil]
    after_reads_at
    exact h.inG j k
  · intro j k
    simp only [entryContents, afterL_cons, afterL_nil]
    after_reads_at
    exact h.inB j k
  · intro j d k
    simp only [entryContents, afterL_cons, afterL_nil]
    after_reads_at
    exact h.outV j d k
  · intro j d
    simp only [entryContents, afterL_cons, afterL_nil]
    after_reads_at
    exact h.outG j d
  · intro j d
    simp only [entryContents, afterL_cons, afterL_nil]
    after_reads_at
    exact h.outB j d
  · intro j k d
    simp only [entryContents, afterL_cons, afterL_nil]
    after_reads_at
    exact h.cb j k d
  · intro b d t
    simp only [entryContents, afterL_cons, afterL_nil]
    after_reads_at
    exact h.z b d t
  · intro b d t
    simp only [entryContents, afterL_cons, afterL_nil]
    after_reads_at
    exact ofBits_zero.trans (congrArg Real.toEReal (sub_self (A.z b d t)).symm)
  · simp only [entryContents, afterL_cons, afterL_nil]
    after_reads_at
    exact ofBits_zero.trans (congrArg Real.toEReal (Finset.sum_range_zero _).symm)
  · simp only [entryContents, afterL_cons, afterL_nil]
    after_reads_at
    exact ofBits_zero.trans (congrArg Real.toEReal (Finset.sum_range_zero _).symm)
  · exact fun i _ _ hi => absurd hi (Nat.not_lt_zero _)
  · exact fun i _ _ _ hi => absurd hi (Nat.not_lt_zero _)

/-- The loop's condition leaves the model's state. -/
theorem cond_holds {n : ℕ} {X : Valuation τ sig (Elt Ideal)} (h : Trip.Holds A n X) : Trip.Holds A n (after condOps X) := by
  constructor
  · rw [Loop.cond_keeps X main_v3_0 (by decide +kernel)]; exact h.inV
  · rw [Loop.cond_keeps X main_v3_1 (by decide +kernel)]; exact h.inG
  · rw [Loop.cond_keeps X main_v3_2 (by decide +kernel)]; exact h.inB
  · rw [Loop.cond_keeps X main_v3_3 (by decide +kernel)]; exact h.outV
  · rw [Loop.cond_keeps X main_v3_4 (by decide +kernel)]; exact h.outG
  · rw [Loop.cond_keeps X main_v3_5 (by decide +kernel)]; exact h.outB
  · rw [Loop.cond_keeps X main_v3_6 (by decide +kernel)]; exact h.cb
  · rw [Loop.cond_keeps X main_v3_8 (by decide +kernel)]; exact h.r
  · rw [Loop.cond_keeps X main_v3_9 (by decide +kernel)]; exact h.q
  · rw [Loop.cond_keeps X main_v3_10 (by decide +kernel)]; exact h.one
  · rw [Loop.cond_keeps X main_v3_11 (by decide +kernel)]; exact h.two
  · rw [Loop.cond_keeps X main_v3_12 (by decide +kernel)]; exact h.codes
  · rw [Loop.cond_keeps X main_v3_13 (by decide +kernel)]; exact h.latents

/-- The counter's word before trip `n`. -/
theorem counter (n : ℕ) (hn : n < 8) : Scf.iv 0#32 1#32 n = BitVec.ofNat 32 n := by
  interval_cases n <;> rfl

/-- Before every trip the buffers hold the model's state. -/
theorem state (h : Encodes A m c) (hcb : ∀ j k, eps ≤ Real.sqrt (∑ d, A.cb j k d * A.cb j k d)) : ∀ n ≤ 8, Trip.Holds A n (atK m n c)
  | 0, _ => start h
  | n + 1, hn => by
    rw [show atK m (n + 1) c = afterL bodyI (after condOps (atK m n c)) from rfl]
    refine Trip.trip (cond_holds (state h hcb n (Nat.le_of_succ_le hn))) hn ?_ hcb
    rw [ctr_cond, atK_ctr m c n, counter n hn]

/-- The buffers at the end are the last trip's, the condition's and the closing operations'. -/
theorem final_eq : finalContents condOps preI bodyI postI 8 m c = after hostOps0_1 (after condOps (atK m 8 c)) := rfl

variable {X : Valuation τ sig (Elt Ideal)}

/-- The quantised input returned. -/
theorem quantised_eq (h : Trip.Holds A 8 X) : after hostOps0_1 X main_v3_9 = quantised A := by
  refine (after_of_writes_sub _ _ hostOps0_1_writes (by decide +kernel)).trans ?_
  funext i
  rw [eq_ix3 i]
  exact h.q _ _ _

/-- The codes returned. -/
theorem codes_eq (h : Trip.Holds A 8 X) : after hostOps0_1 X main_v4 = codes A := by
  funext i
  rw [eq_ix3 i]
  after_reads_at
  exact h.codes _ _ _ (i 1).isLt

/-- The latents returned. -/
theorem latents_eq (h : Trip.Holds A 8 X) : after hostOps0_1 X main_v6 = latents A := by
  funext i
  rw [eq_ix3 i]
  after_reads_at
  exact h.latents _ _ _ _ (Nat.div_lt_of_lt_mul (i 1).isLt)

/-- The first loss returned. -/
theorem one_eq (h : Trip.Holds A 8 X) : after hostOps0_1 X main_v3_10 = lossOf A := by
  refine (after_of_writes_sub _ _ hostOps0_1_writes (by decide +kernel)).trans ?_
  funext i
  rw [show i = ix0 from funext fun a => a.elim0]
  exact h.one

/-- The second loss returned. -/
theorem two_eq (h : Trip.Holds A 8 X) : after hostOps0_1 X main_v3_11 = lossOf A := by
  refine (after_of_writes_sub _ _ hostOps0_1_writes (by decide +kernel)).trans ?_
  funext i
  rw [show i = ix0 from funext fun a => a.elim0]
  exact h.two

/-- On every device the reference returns the model's results, and leaves the arguments. -/
theorem run (A : Dev nD → Args) (hA : ∀ c, Encodes (A c) m c)
    (hcb : ∀ c j k, eps ≤ Real.sqrt (∑ d, (A c).cb j k d * (A c).cb j k d)) (ρ : Dev nD → PrngReg) :
    θ_run defs (onTc (τ := τ) (main (F := Ideal))) ⟨m, fun _ => 0, ρ⟩ (fun r => ∀ c : Dev nD,
      r.2.mem ((c.tc : Thread nD τ).loc main_v3_9) = quantised (A c)
      ∧ r.2.mem ((c.tc : Thread nD τ).loc main_v4) = codes (A c)
      ∧ r.2.mem ((c.tc : Thread nD τ).loc main_v6) = latents (A c)
      ∧ r.2.mem ((c.tc : Thread nD τ).loc main_v3_10) = lossOf (A c)
      ∧ r.2.mem ((c.tc : Thread nD τ).loc main_v3_11) = lossOf (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (θ_run_and (run_fold m ρ) (Loop.unchanged m ρ))
  obtain ⟨hp, hu⟩ := h
  have hs := cond_holds (state (hA c) (hcb c) 8 le_rfl)
  exact ⟨(hp c main_v3_9 rfl).trans ((congrFun final_eq _).trans (quantised_eq hs)), (hp c main_v4 rfl).trans ((congrFun final_eq _).trans (codes_eq hs)), (hp c main_v6 rfl).trans ((congrFun final_eq _).trans (latents_eq hs)),
    (hp c main_v3_10 rfl).trans ((congrFun final_eq _).trans (one_eq hs)), (hp c main_v3_11 rfl).trans ((congrFun final_eq _).trans (two_eq hs)), hu c⟩

end Cert.ReferenceIdeal.Returned
-- ==== Proof.lean ====
/-
  The assembly: the two kernel frames are the generated ones, the reference's comes from its loop's fold, and the
  kernel and the reference both return the model's results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Pre
public import proofs.«01_k».proof.Proof.RefRun
public import proofs.«01_k».proof.Proof.RefValue
public import proofs.«01_k».proof.Proof.Results
public import Idealize.ShloMosaic.Adequacy
public import Idealize.ShloMosaic.Init

@[expose] public section

noncomputable section

namespace Cert.Proof

open Idealize.ShloMosaic Idealize.SL.Sem Cert.Kernel Cert.Rvq

/-- The reference ends with its arguments unchanged and no semaphore left raised. -/
theorem reference_frame : Cert.quiescent_ReferenceIdeal (hReferenceIdeal := Cert.ReferenceIdeal.Gen.facts) := fun m ρ _ =>
  (θ_run Cert.ReferenceIdeal.defs _ _).mono (fun _ h => ⟨h, sem_eq_zero_of_no_sems (by decide) _⟩) (Cert.ReferenceIdeal.Loop.unchanged m ρ)

/-- Over the reals the kernel and the reference return the same five results. -/
theorem algebraic : Cert.algebraic_KernelIdeal_ReferenceIdeal_pre_finite_and_normed (hKernelIdeal := Cert.KernelIdeal.Gen.facts)
    (hReferenceIdeal := Cert.ReferenceIdeal.Gen.facts) (hPre_finite_and_normed := Cert.Pre_finite_and_normed.facts) := by
  intro m g m' g' hp hm
  have hA := fun c => Cert.Pre_finite_and_normed.encodes (hPre := Cert.Pre_finite_and_normed.facts) hp c
  have hl := fun c => Cert.Pre_finite_and_normed.long (hPre := Cert.Pre_finite_and_normed.facts) hp c
  have hB : ∀ c, Cert.ReferenceIdeal.Returned.Encodes (Cert.Pre_finite_and_normed.argsOf m c) m' c := fun c => by
    obtain ⟨h0, h1, h2, h3, h4, h5, h6, h7⟩ := hm c
    exact ⟨fun b d t => (congrFun h0 _).trans ((hA c).z b d t), fun j k d => (congrFun h1 _).trans ((hA c).inV j k d),
      fun j k => (congrFun h2 _).trans ((hA c).inG j k), fun j k => (congrFun h3 _).trans ((hA c).inB j k),
      fun j d k => (congrFun h4 _).trans ((hA c).outV j d k), fun j d => (congrFun h5 _).trans ((hA c).outG j d),
      fun j d => (congrFun h6 _).trans ((hA c).outB j d), fun j k d => (congrFun h7 _).trans ((hA c).cb j k d)⟩
  refine ⟨fun c => Cert.KernelIdeal.Arrays.quantised (Cert.Pre_finite_and_normed.argsOf m c),
    fun c => Cert.KernelIdeal.Arrays.codes (Cert.Pre_finite_and_normed.argsOf m c),
    fun c => Cert.KernelIdeal.Arrays.latents (Cert.Pre_finite_and_normed.argsOf m c),
    fun c => Cert.KernelIdeal.Results.lossOf (Cert.Pre_finite_and_normed.argsOf m c),
    fun c => Cert.KernelIdeal.Results.lossOf (Cert.Pre_finite_and_normed.argsOf m c), ?_, ?_⟩
  · refine (θ_run Cert.KernelIdeal.defs _ _).mono (fun r h c => ?_) (Cert.KernelIdeal.Results.run m _ hA g)
    obtain ⟨h0, h1, h2, h3, hu⟩ := h c
    exact ⟨h0, h1, h2, h3, h3, hu⟩
  · exact Cert.ReferenceIdeal.Returned.run _ hB hl g'

/-- The certificate's claims. -/
theorem claim : Cert.Claim := ⟨Cert.Kernel.Gen.facts, Cert.KernelIdeal.Gen.facts, Cert.ReferenceIdeal.Gen.facts, Cert.Pre_finite_and_normed.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, algebraic⟩

end Cert.Proof

end
